-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_has_candidate [hPre_row_has_candidate : Cert.Pre_row_has_candidate.Facts] (m : (ℓ : Loc Cert.KernelIdeal.nD Cert.KernelIdeal.τ Cert.KernelIdeal.sig) → Buf (Elt Ideal) ℓ) : Prop :=
  ∀ c : Dev Cert.KernelIdeal.nD,
    (Cert.Pre_row_has_candidate.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_has_candidate [hPre_row_has_candidate : Cert.Pre_row_has_candidate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_has_candidate.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_has_candidate [hKernelIdeal : Cert.KernelIdeal.Facts] [hPre_row_has_candidate : Cert.Pre_row_has_candidate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_has_candidate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_has_candidate [hReferenceIdeal : Cert.ReferenceIdeal.Facts] [hPre_row_has_candidate : Cert.Pre_row_has_candidate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_has_candidate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_has_candidate [hKernelIdeal : Cert.KernelIdeal.Facts] [hReferenceIdeal : Cert.ReferenceIdeal.Facts] [hPre_row_has_candidate : Cert.Pre_row_has_candidate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_has_candidate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_has_candidate : Cert.Pre_row_has_candidate.Facts),
    quiescent_Kernel (hKernel := hKernel)
    ∧ quiescent_KernelIdeal (hKernelIdeal := hKernelIdeal)
    ∧ quiescent_KernelIdeal_pre_row_has_candidate (hKernelIdeal := hKernelIdeal) (hPre_row_has_candidate := hPre_row_has_candidate)
    ∧ quiescent_ReferenceIdeal (hReferenceIdeal := hReferenceIdeal)
    ∧ quiescent_ReferenceIdeal_pre_row_has_candidate (hReferenceIdeal := hReferenceIdeal) (hPre_row_has_candidate := hPre_row_has_candidate)
    ∧ preserves_Kernel_KernelIdeal
    ∧ algebraic_KernelIdeal_ReferenceIdeal_pre_row_has_candidate (hKernelIdeal := hKernelIdeal) (hReferenceIdeal := hReferenceIdeal) (hPre_row_has_candidate := hPre_row_has_candidate)
-- ==== Pre_row_has_candidate.lean ====
abbrev S32x1000000 : Shape := ⟨2, ![32, 1000000]⟩
abbrev S_ : Shape := ⟨0, ![]⟩
abbrev S32 : Shape := ⟨1, ![32]⟩

class Facts : Prop where
  bcast_S_S32x1000000 : S_.BroadcastsInDim S32x1000000 (![] : Fin 0 → Fin S32x1000000.rank)
  reducesTo_S32x1000000_S32_d1 : S32x1000000.ReducesTo [1] S32
  h_S_ : 0 < S_.numel
  reducesTo_S32_S_d0 : S32.ReducesTo [0] S_

variable [Facts]

def fn {F : FTy → Type} [FloatOps F] (main_arg0 : FVec F S32x1000000 .f32) : IVec S_ 1 :=
  let main_cst : FVec F S_ .f32 := constant S_ .f32 0xFF800000#32
  let main_v0 : FVec F S32x1000000 .f32 := broadcastInDim S32x1000000 ![] bcast_S_S32x1000000 main_cst
  let main_v1 : IVec S32x1000000 1 := cmpf .ogt main_arg0 main_v0
  let main_c : IVec S_ 1 := constantI S_ 1 0#1
  let main_v2 : IVec S32 1 := (fun x v => Host.reduce IntOp.ori x v reducesTo_S32x1000000_S32_d1 h_S_) main_v1 main_c
  let main_c_0 : IVec S_ 1 := constantI S_ 1 1#1
  let main_v3 : IVec S_ 1 := (fun x v => Host.reduce IntOp.andi x v reducesTo_S32_S_d0 h_S_) main_v2 main_c_0
  main_v3
-- ==== Kernel.lean ====
abbrev S32x1000000 : Shape := ⟨2, ![32, 1000000]⟩
abbrev S16x32768 : Shape := ⟨2, ![16, 32768]⟩
abbrev S_ : Shape := ⟨0, ![]⟩
abbrev S32x1 : Shape := ⟨2, ![32, 1]⟩
abbrev S16x1 : Shape := ⟨2, ![16, 1]⟩
abbrev S16x512 : Shape := ⟨2, ![16, 512]⟩
abbrev S16 : Shape := ⟨1, ![16]⟩

abbrev nBuf : Space → Nat
  | .hbm => 11
  | .vmem => 7
  | .smem => 0
  | _ => 0

abbrev bufTy : (tb : Table) → Fin (tcTables nBuf tb) → BufTy
  | .hbm, ⟨0, _⟩ => ⟨S32x1000000, .f32⟩
  | .hbm, ⟨1, _⟩ => ⟨S16x32768, .i32⟩
  | .hbm, ⟨2, _⟩ => ⟨S_, .i32⟩
  | .hbm, ⟨3, _⟩ => ⟨S16x32768, .i32⟩
  | .hbm, ⟨4, _⟩ => ⟨S16x32768, .i32⟩
  | .hbm, ⟨5, _⟩ => ⟨S16x32768, .i32⟩
  | .hbm, ⟨6, _⟩ => ⟨S16x32768, .i32⟩
  | .hbm, ⟨7, _⟩ => ⟨S_, .i32⟩
  | .hbm, ⟨8, _⟩ => ⟨S16x32768, .i32⟩
  | .hbm, ⟨9, _⟩ => ⟨S16x32768, .i32⟩
  | .hbm, ⟨10, _⟩ => ⟨S32x1, .i32⟩
  | .local _ .vmem, ⟨0, _⟩ => ⟨S16x32768, .i32⟩
  | .local _ .vmem, ⟨1, _⟩ => ⟨S16x32768, .f32⟩
  | .local _ .vmem, ⟨2, _⟩ => ⟨S16x32768, .f32⟩
  | .local _ .vmem, ⟨3, _⟩ => ⟨S16x1, .i32⟩
  | .local _ .vmem, ⟨4, _⟩ => ⟨S16x1, .i32⟩
  | .local _ .vmem, ⟨5, _⟩ => ⟨S16x32768, .f32⟩
  | .local _ .vmem, ⟨6, _⟩ => ⟨S16x32768, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 31], ![false, false]⟩

def k0_cond3 (i : grid0.Coords) : BitVec 1 :=
  let arg1 : BitVec 32 := BitVec.ofNat 32 (i 1).val
  let c30_i32_2 : BitVec 32 := 30#32
  let v6 : BitVec 1 := Scalar.cmpi .eq arg1 c30_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16x32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 256
  | .vmem => 0
  | .smem => 0
  | _ => 0

abbrev hbmTy0_0 (i : Nat) : BufTy := match i % 128 with
  | 0 => ⟨S32x1000000, .f32⟩
  | 1 => ⟨S32x1000000, .i32⟩
  | 2 => ⟨S_, .i32⟩
  | 3 => ⟨S32x1000000, .i32⟩
  | 4 => ⟨S32x1000000, .i32⟩
  | 5 => ⟨S32x1000000, .i32⟩
  | 6 => ⟨S32x1000000, .i32⟩
  | 7 => ⟨S_, .i32⟩
  | 8 => ⟨S32x1000000, .i32⟩
  | 9 => ⟨S_, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S_, .i32⟩
  | 20 => ⟨S32x1000000, .i32⟩
  | 21 => ⟨S32x1000000, .i32⟩
  | 22 => ⟨S32x1000000, .i32⟩
  | 23 => ⟨S32x1000000, .i32⟩
  | 24 => ⟨S32x1000000, .i32⟩
  | 25 => ⟨S_, .i32⟩
  | 26 => ⟨S32x1000000, .i32⟩
  | 27 => ⟨S32x1000000, .i32⟩
  | 28 => ⟨S_, .i32⟩
  | 29 => ⟨S32x1000000, .i32⟩
  | 30 => ⟨S32x1000000, .i32⟩
  | 31 => ⟨S32x1000000, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S_, .i32⟩
  | 38 => ⟨S32x1000000, .i32⟩
  | 39 => ⟨S32x1000000, .i32⟩
  | 40 => ⟨S32x1000000, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S_, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S32x1000000, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S32x1000000, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S32x1000000, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S_, .i32⟩
  | _ => ⟨S32x1000000, .f32⟩

abbrev hbmTy0_1 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S32x1000000, .i32⟩
  | 6 => ⟨S32x1000000, .i32⟩
  | 7 => ⟨S_, .i32⟩
  | 8 => ⟨S32x1000000, .i32⟩
  | 9 => ⟨S32x1000000, .i32⟩
  | 10 => ⟨S_, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S32x1000000, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S_, .i32⟩
  | 27 => ⟨S32x1000000, .i32⟩
  | 28 => ⟨S32x1000000, .i32⟩
  | 29 => ⟨S32x1000000, .i32⟩
  | 30 => ⟨S32x1000000, .i32⟩
  | 31 => ⟨S32x1000000, .i32⟩
  | 32 => ⟨S_, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S32x1000000, .i32⟩
  | 39 => ⟨S32x1000000, .i32⟩
  | 40 => ⟨S32x1000000, .i32⟩
  | 41 => ⟨S_, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S32x1000000, .i32⟩
  | 48 => ⟨S32x1000000, .i32⟩
  | 49 => ⟨S_, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .f32⟩
  | 105 => ⟨S_, .f32⟩
  | 106 => ⟨S32x1000000, .f32⟩
  | 107 => ⟨S32x1000000, .f32⟩
  | 108 => ⟨S_, .f32⟩
  | 109 => ⟨S32x1000000, .f32⟩
  | 110 => ⟨S32x1000000, .f32⟩
  | 111 => ⟨S_, .f32⟩
  | 112 => ⟨S32x1000000, .f32⟩
  | 113 => ⟨S32x1000000, .f32⟩
  | 114 => ⟨S_, .f32⟩
  | 115 => ⟨S32x1000000, .f32⟩
  | 116 => ⟨S32x1000000, .f32⟩
  | 117 => ⟨S32x1000000, .f32⟩
  | 118 => ⟨S32x1000000, .f32⟩
  | 119 => ⟨S32x1000000, .f32⟩
  | 120 => ⟨S32x1000000, .f32⟩
  | 121 => ⟨S32x1000000, .f32⟩
  | 122 => ⟨S32x1000000, .i32⟩
  | 123 => ⟨S_, .f32⟩
  | 124 => ⟨S_, .i32⟩
  | 125 => ⟨S32, .f32⟩
  | 126 => ⟨S32, .i32⟩
  | 127 => ⟨S32x1, .i32⟩
  | _ => ⟨S32x1000000, .f32⟩

abbrev hbmTy (i : Nat) : BufTy := match i / 128 with
  | 0 => hbmTy0_0 i
  | 1 => hbmTy0_1 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_c_6 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_7 : Ref sig .tc := ⟨.hbm, 34, rfl⟩
abbrev main_v25 : Ref sig .tc := ⟨.hbm, 35, rfl⟩
abbrev main_v26 : Ref sig .tc := ⟨.hbm, 36, rfl⟩
abbrev main_c_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_11 : Ref sig .tc := ⟨.hbm, 51, rfl⟩
abbrev main_v38 : Ref sig .tc := ⟨.hbm, 52, rfl⟩
abbrev main_v39 : Ref sig .tc := ⟨.hbm, 53, rfl⟩
abbrev main_c_12 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_c_14 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_15 : Ref sig .tc := ⟨.hbm, 67, rfl⟩
abbrev main_v50 : Ref sig .tc := ⟨.hbm, 68, rfl⟩
abbrev main_v51 : Ref sig .tc := ⟨.hbm, 69, rfl⟩
abbrev main_c_16 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_17 : Ref sig .tc := ⟨.hbm, 76, rfl⟩
abbrev main_v57 : Ref sig .tc := ⟨.hbm, 77, rfl⟩
abbrev main_v58 : Ref sig .tc := ⟨.hbm, 78, rfl⟩
abbrev main_c_18 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_19 : Ref sig .tc := ⟨.hbm, 85, rfl⟩
abbrev main_v64 : Ref sig .tc := ⟨.hbm, 86, rfl⟩
abbrev main_v65 : Ref sig .tc := ⟨.hbm, 87, rfl⟩
abbrev main_c_20 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_21 : Ref sig .tc := ⟨.hbm, 93, rfl⟩
abbrev main_v70 : Ref sig .tc := ⟨.hbm, 94, rfl⟩
abbrev main_v71 : Ref sig .tc := ⟨.hbm, 95, rfl⟩
abbrev main_c_22 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_c_24 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_25 : Ref sig .tc := ⟨.hbm, 109, rfl⟩
abbrev main_v82 : Ref sig .tc := ⟨.hbm, 110, rfl⟩
abbrev main_v83 : Ref sig .tc := ⟨.hbm, 111, rfl⟩
abbrev main_c_26 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_27 : Ref sig .tc := ⟨.hbm, 118, rfl⟩
abbrev main_v89 : Ref sig .tc := ⟨.hbm, 119, rfl⟩
abbrev main_v90 : Ref sig .tc := ⟨.hbm, 120, rfl⟩
abbrev main_c_28 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_29 : Ref sig .tc := ⟨.hbm, 127, rfl⟩
abbrev main_v96 : Ref sig .tc := ⟨.hbm, 128, rfl⟩
abbrev main_v97 : Ref sig .tc := ⟨.hbm, 129, rfl⟩
abbrev main_c_30 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_31 : Ref sig .tc := ⟨.hbm, 135, rfl⟩
abbrev main_v102 : Ref sig .tc := ⟨.hbm, 136, rfl⟩
abbrev main_v103 : Ref sig .tc := ⟨.hbm, 137, rfl⟩
abbrev main_c_32 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_c_34 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_35 : Ref sig .tc := ⟨.hbm, 151, rfl⟩
abbrev main_v114 : Ref sig .tc := ⟨.hbm, 152, rfl⟩
abbrev main_v115 : Ref sig .tc := ⟨.hbm, 153, rfl⟩
abbrev main_c_36 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_37 : Ref sig .tc := ⟨.hbm, 160, rfl⟩
abbrev main_v121 : Ref sig .tc := ⟨.hbm, 161, rfl⟩
abbrev main_v122 : Ref sig .tc := ⟨.hbm, 162, rfl⟩
abbrev main_c_38 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_39 : Ref sig .tc := ⟨.hbm, 169, rfl⟩
abbrev main_v128 : Ref sig .tc := ⟨.hbm, 170, rfl⟩
abbrev main_v129 : Ref sig .tc := ⟨.hbm, 171, rfl⟩
abbrev main_c_40 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_41 : Ref sig .tc := ⟨.hbm, 177, rfl⟩
abbrev main_v134 : Ref sig .tc := ⟨.hbm, 178, rfl⟩
abbrev main_v135 : Ref sig .tc := ⟨.hbm, 179, rfl⟩
abbrev main_c_42 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_c_43 : Ref sig .tc := ⟨.hbm, 184, rfl⟩
abbrev main_v139 : Ref sig .tc := ⟨.hbm, 185, rfl⟩
abbrev main_v140 : Ref sig .tc := ⟨.hbm, 186, rfl⟩
abbrev main_c_44 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_45 : Ref sig .tc := ⟨.hbm, 193, rfl⟩
abbrev main_v146 : Ref sig .tc := ⟨.hbm, 194, rfl⟩
abbrev main_v147 : Ref sig .tc := ⟨.hbm, 195, rfl⟩
abbrev main_c_46 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_c_47 : Ref sig .tc := ⟨.hbm, 202, rfl⟩
abbrev main_v153 : Ref sig .tc := ⟨.hbm, 203, rfl⟩
abbrev main_v154 : Ref sig .tc := ⟨.hbm, 204, rfl⟩
abbrev main_c_48 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_c_49 : Ref sig .tc := ⟨.hbm, 211, rfl⟩
abbrev main_v160 : Ref sig .tc := ⟨.hbm, 212, rfl⟩
abbrev main_v161 : Ref sig .tc := ⟨.hbm, 213, rfl⟩
abbrev main_c_50 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_51 : Ref sig .tc := ⟨.hbm, 219, rfl⟩
abbrev main_v166 : Ref sig .tc := ⟨.hbm, 220, rfl⟩
abbrev main_v167 : Ref sig .tc := ⟨.hbm, 221, rfl⟩
abbrev main_c_52 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_53 : Ref sig .tc := ⟨.hbm, 226, rfl⟩
abbrev main_v171 : Ref sig .tc := ⟨.hbm, 227, rfl⟩
abbrev main_v172 : Ref sig .tc := ⟨.hbm, 228, rfl⟩
abbrev main_c_54 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst : Ref sig .tc := ⟨.hbm, 233, rfl⟩
abbrev main_v176 : Ref sig .tc := ⟨.hbm, 234, rfl⟩
abbrev main_v177 : Ref sig .tc := ⟨.hbm, 235, rfl⟩
abbrev main_cst_55 : Ref sig .tc := ⟨.hbm, 236, rfl⟩
abbrev main_v178 : Ref sig .tc := ⟨.hbm, 237, rfl⟩
abbrev main_v179 : Ref sig .tc := ⟨.hbm, 238, rfl⟩
abbrev main_cst_56 : Ref sig .tc := ⟨.hbm, 239, rfl⟩
abbrev main_v180 : Ref sig .tc := ⟨.hbm, 240, rfl⟩
abbrev main_v181 : Ref sig .tc := ⟨.hbm, 241, rfl⟩
abbrev main_cst_57 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_call0_v0 : Ref sig .tc := ⟨.hbm, 250, rfl⟩
abbrev main_call0_cst : Ref sig .tc := ⟨.hbm, 251, rfl⟩
abbrev main_call0_c : Ref sig .tc := ⟨.hbm, 252, rfl⟩
abbrev main_call0_v1_0 : Ref sig .tc := ⟨.hbm, 253, rfl⟩
abbrev main_v189 : Ref sig .tc := ⟨.hbm, 254, rfl⟩
abbrev main_v190 : Ref sig .tc := ⟨.hbm, 255, rfl⟩

abbrev nD : Nat := 1
abbrev τ : Topo := Topo.v7x

variable {F : FTy → Type} [FloatOps F]
-- ==== Proof.Noise.lean ====
/- The noise of one entry, as the kernel computes it on a block of counters: the Threefry bits of the
   counter, the uniform number those bits name, and its Gumbel transform. Every operation is elementwise. -/
module

public import Idealize.ShloMosaic.Lib.Pipeline
public import Idealize.ShloMosaic.PureOps

@[expose] public section

noncomputable section

namespace Cert.Proof

open Idealize.ShloMosaic

variable {F : FTy → Type} [FloatOps F] {s : Shape}

/-- Every entry's word turned left by `l` bits, `r` being `32 - l`. -/
def turn (l r : BitVec 32) (x : IVec s 32) : IVec s 32 :=
  ori (shli x (broadcast s l)) (shrui x (broadcast s r))

/-- The twenty rounds of Threefry-2x32 under the key `(0, 42)` at the counter words `(0, x - 42)`, the two output
    words combined by exclusive or: the second word comes in with its key already added. -/
def bitsOf (x : IVec s 32) : IVec s 32 :=
  let b := xori (turn 13#32 19#32 x) x
  let a := addi x b
  let b := xori (turn 15#32 17#32 b) a
  let a := addi a b
  let b := xori (turn 26#32 6#32 b) a
  let a := addi a b
  let b := xori (turn 6#32 26#32 b) a
  let a := addi a (broadcast s 42#32)
  let b := addi b (broadcast s 466689009#32)
  let a := addi a b
  let b := xori (turn 17#32 15#32 b) a
  let a := addi a b
  let b := xori (turn 29#32 3#32 b) a
  let a := addi a b
  let b := xori (turn 16#32 16#32 b) a
  let a := addi a b
  let b := xori (turn 24#32 8#32 b) a
  let a := addi a (broadcast s 466689008#32)
  let b := addi b (broadcast s 2#32)
  let a := addi a b
  let b := xori (turn 13#32 19#32 b) a
  let a := addi a b
  let b := xori (turn 15#32 17#32 b) a
  let a := addi a b
  let b := xori (turn 26#32 6#32 b) a
  let a := addi a b
  let b := xori (turn 6#32 26#32 b) a
  let a := addi a (broadcast s 0#32)
  let b := addi b (broadcast s 45#32)
  let a := addi a b
  let b := xori (turn 17#32 15#32 b) a
  let a := addi a b
  let b := xori (turn 29#32 3#32 b) a
  let a := addi a b
  let b := xori (turn 16#32 16#32 b) a
  let a := addi a b
  let b := xori (turn 24#32 8#32 b) a
  let a := addi a (broadcast s 42#32)
  let b := addi b (broadcast s 466689012#32)
  let a := addi a b
  let b := xori (turn 13#32 19#32 b) a
  let a := addi a b
  let b := xori (turn 15#32 17#32 b) a
  let a := addi a b
  let b := xori (turn 26#32 6#32 b) a
  let a := addi a b
  let b := xori (turn 6#32 26#32 b) a
  let a := addi a (broadcast s 466689008#32)
  let b := addi b (broadcast s 5#32)
  xori a b

/-- The uniform number in `[tiny, 1)` that a word names, through the 23 bits of a mantissa. -/
def uniformOf (w : IVec s 32) : FVec F s .f32 :=
  maximumf (broadcast s (Scalar.ofBits .f32 0x00800000#32))
    (addf (mulf (subf (bitcastToFloat .f32 (ori (shrui w (broadcast s 9#32)) (broadcast s 1065353216#32)))
            (broadcast s (Scalar.ofBits .f32 0x3F800000#32)))
          (broadcast s (Scalar.ofBits .f32 0x3F800000#32)))
      (broadcast s (Scalar.ofBits .f32 0x00800000#32)))

/-- The Gumbel transform `-log (-log u)`, each negation a subtraction from zero. -/
def gumbelOf (u : FVec F s .f32) : FVec F s .f32 :=
  subf (broadcast s (Scalar.ofBits .f32 0x00000000#32))
    (log (subf (broadcast s (Scalar.ofBits .f32 0x00000000#32)) (log u)))

/-- The noise at the counters `x`. -/
def noise (x : IVec s 32) : FVec F s .f32 := gumbelOf (uniformOf (bitsOf x))

end Cert.Proof

end
-- ==== Proof.IdealText.lean ====
/- The kernel's body in a form one can reason about: the work on one chunk of 512 columns as a function of the
   chunk's number, the 64 chunks of a block in order, and the closing reduction; and the printed body is that. -/
module

public import proofs.«01_k».proof.Proof.Gen.KernelIdeal.Frame
public import proofs.«01_k».proof.Proof.Noise

@[expose] public section

set_option maxRecDepth 100000

noncomputable section

namespace Cert.KernelIdeal.Hand

open Idealize.ShloMosaic Idealize.SL.Sem
open Cert.KernelIdeal Cert.KernelIdeal.Facts₀ Cert.KernelIdeal.Facts Cert.Proof

variable {F : FTy → Type} [FloatOps F] [Facts]

theorem chunk_inb (n : ℕ) (a : Fin 2) :
    (![0, 512 * (n % 64)] : Fin 2 → Nat) a + S16x512.size a ≤ S16x32768.size a := by
  have h : n % 64 < 64 := Nat.mod_lt n (by omega)
  fin_cases a
  · show 0 + 16 ≤ 16; omega
  · show 512 * (n % 64) + 512 ≤ 32768; omega

/-- The columns of chunk `n`. -/
abbrev cols (n : ℕ) : Rect S16x32768 := Rect.unit (s := S16x32768) ![0, 512 * (n % 64)] S16x512.size (chunk_inb n)

/-- What the last block keeps of a chunk's sums: the columns inside the array, minus infinity elsewhere. -/
def clip (n : ℕ) (x : FVec F S16x512 .f32) : FVec F S16x512 .f32 :=
  select (cmpi .slt (addi (iota .tc S16x512 32 [1] iota_S16x512_d1_w32) (broadcast S16x512 (BitVec.ofNat 32 (512 * n))))
    (broadcast S16x512 16960#32)) x (broadcast S16x512 (Scalar.ofBits .f32 0xFF800000#32))

variable (arg2 : Memref sig .tc .vmem S16x32768 .i32) (arg3 : Memref sig .tc .vmem S16x32768 .f32)
  (arg4 : Memref sig .tc .vmem S16x1 .i32) (arg5 : Memref sig .tc .vmem S16x32768 .f32)
  (arg6 : Memref sig .tc .vmem S16x32768 .i32) (arg0 arg1 : BitVec 32)

/-- The counters of a chunk: the base block's, moved on to the grid point's block. -/
def counters (x : IVec S16x512 32) : IVec S16x512 32 :=
  addi (shapeCast S16x512 x shapeCasts_S16x512_S16x512)
    (broadcast S16x512 (Scalar.addi (Scalar.muli arg0 16000000#32) (Scalar.muli arg1 32768#32)))

/-- The work on chunk `n`, then `rest`. -/
def chunk (keep : FVec F S16x512 .f32 → FVec F S16x512 .f32) (n : ℕ) (rest : Prog (TpuEff nD τ sig (Elt F) Λ₀ .tc) PUnit) :
    Prog (TpuEff nD τ sig (Elt F) Λ₀ .tc) PUnit :=
  .op (.load arg2 (cols n).toLoadRect (View.loadsAt_vmem h_S16x512)) fun (base : Vec F S16x512 .i32) =>
  .op (.load arg3 (cols n).toLoadRect (View.loadsAt_vmem h_S16x512)) fun (x : Vec F S16x512 .f32) =>
  .op (.load arg5 (cols n).toLoadRect (View.loadsAt_vmem h_S16x512)) fun (best : Vec F S16x512 .f32) =>
  .op (.load arg5 (cols n).toLoadRect (View.loadsAt_vmem h_S16x512)) fun (best' : Vec F S16x512 .f32) =>
  .op (.load arg5 (cols n).toLoadRect (View.loadsAt_vmem h_S16x512)) fun _ =>
  .op (.store arg5 (cols n) (shapeCast S16x512
      (select (cmpf .ogt (keep (addf (noise (counters arg0 arg1 base)) x)) best)
        (keep (addf (noise (counters arg0 arg1 base)) x)) best') shapeCasts_S16x512_S16x512)
      Finset.univ (View.stores_vmem_bits_univ h_S16x512 rfl) (.inl rfl)) fun _ =>
  .op (.load arg6 (cols n).toLoadRect (View.loadsAt_vmem h_S16x512)) fun (at' : Vec F S16x512 .i32) =>
  .op (.load arg6 (cols n).toLoadRect (View.loadsAt_vmem h_S16x512)) fun _ =>
  .op (.store arg6 (cols n) (shapeCast S16x512
      (select (cmpf .ogt (keep (addf (noise (counters arg0 arg1 base)) x)) best)
        (counters arg0 arg1 base) at') shapeCasts_S16x512_S16x512)
      Finset.univ (View.stores_vmem_bits_univ h_S16x512 rfl) (.inl rfl)) fun _ => rest

/-- The first `n` chunks of a block in order, then `rest`. -/
def chunks (keep : ℕ → FVec F S16x512 .f32 → FVec F S16x512 .f32) (n : ℕ) (rest : Prog (TpuEff nD τ sig (Elt F) Λ₀ .tc) PUnit) :
    Prog (TpuEff nD τ sig (Elt F) Λ₀ .tc) PUnit :=
  Nat.rec (motive := fun _ => Prog (TpuEff nD τ sig (Elt F) Λ₀ .tc) PUnit → Prog (TpuEff nD τ sig (Elt F) Λ₀ .tc) PUnit)
    (fun rest => rest)
    (fun n go rest => go (chunk arg2 arg3 arg5 arg6 arg0 arg1 (keep n) n rest)) n rest

/-- The first block of a row block: no best yet, and an index above every counter. -/
def start (rest : Prog (TpuEff nD τ sig (Elt F) Λ₀ .tc) PUnit) : Prog (TpuEff nD τ sig (Elt F) Λ₀ .tc) PUnit :=
  .op (.load arg5 (Rect.unit (s := S16x32768) ![0, 0] S16x32768.size inb_S16x32768_S16x32768_0_0).toLoadRect (View.loadsAt_vmem h_S16x32768)) fun (_ : Vec F S16x32768 .f32) =>
  .op (.store arg5 (Rect.unit (s := S16x32768) ![0, 0] S16x32768.size inb_S16x32768_S16x32768_0_0)
    (shapeCast S16x32768 (broadcast S16x32768 (Scalar.ofBits .f32 0xFF800000#32)) shapeCasts_S16x32768_S16x32768)
    Finset.univ (View.stores_vmem_bits_univ h_S16x32768 rfl) (.inl rfl)) fun _ =>
  .op (.load arg6 (Rect.unit (s := S16x32768) ![0, 0] S16x32768.size inb_S16x32768_S16x32768_0_0).toLoadRect (View.loadsAt_vmem h_S16x32768)) fun (_ : Vec F S16x32768 .i32) =>
  .op (.store arg6 (Rect.unit (s := S16x32768) ![0, 0] S16x32768.size inb_S16x32768_S16x32768_0_0)
    (shapeCast S16x32768 (broadcast S16x32768 1073741824#32) shapeCasts_S16x32768_S16x32768)
    Finset.univ (View.stores_vmem_bits_univ h_S16x32768 rfl) (.inl rfl)) fun _ => rest

/-- The row winners from the columns' best sums `rv` and their counters `ri`: the least counter among a row's
    greatest sums, taken back to a column. -/
def winners (rv : FVec F S16x32768 .f32) (ri : IVec S16x32768 32) : IVec S16x1 32 :=
  subi
    (shapeCast S16x1 (multiReductionI .minsi [1] S16
      (select (cmpf .oeq rv (broadcastTo S16x32768 (shapeCast S16x1
          (multiReduction .maximumf [1] S16 rv 0xFF800000#32 reduces_S16x32768_S16 (.inl rfl) rfl)
          shapeCasts_S16_S16x1) broadcasts_S16x1_S16x32768))
        ri (broadcast S16x32768 1073741824#32))
      2147483647#32 reduces_S16x32768_S16 rfl) shapeCasts_S16_S16x1)
    (addi (muli (addi (iota .tc S16x1 32 [0] iota_S16x1_d0_w32) (broadcast S16x1 (Scalar.muli arg0 16#32)))
      (broadcast S16x1 1000000#32)) (broadcast S16x1 42#32))

/-- The closing reduction of a row block. -/
def finish : Prog (TpuEff nD τ sig (Elt F) Λ₀ .tc) PUnit :=
  .op (.load arg5 (Rect.unit (s := S16x32768) ![0, 0] S16x32768.size inb_S16x32768_S16x32768_0_0).toLoadRect (View.loadsAt_vmem h_S16x32768)) fun (rv : Vec F S16x32768 .f32) =>
  .op (.load arg6 (Rect.unit (s := S16x32768) ![0, 0] S16x32768.size inb_S16x32768_S16x32768_0_0).toLoadRect (View.loadsAt_vmem h_S16x32768)) fun (ri : Vec F S16x32768 .i32) =>
  .op (.load arg4 (Rect.unit (s := S16x1) ![0, 0] S16x1.size inb_S16x1_S16x1_0_0).toLoadRect (View.loadsAt_vmem h_S16x1)) fun (_ : Vec F S16x1 .i32) =>
  .op (.store arg4 (Rect.unit (s := S16x1) ![0, 0] S16x1.size inb_S16x1_S16x1_0_0) (winners arg0 rv ri)
    Finset.univ (View.stores_vmem_bits_univ h_S16x1 rfl) (.inl rfl)) fun _ => .ret ⟨⟩

/-- A grid point's work: the first block starts, every block but the last runs its chunks, the last runs its chunks
    clipped and reduces. -/
def work (i : grid0.Coords) : Prog (TpuEff nD τ sig (Elt F) Λ₀ .tc) PUnit := do
  let arg0 : BitVec 32 := BitVec.ofNat 32 (i 0).val
  let arg1 : BitVec 32 := BitVec.ofNat 32 (i 1).val
  if h1 : Scalar.cmpi .ne (Scalar.extui (Scalar.cmpi .eq arg1 0#32) : BitVec 32) 0#32 = 1#1 then start arg5 arg6 (.ret ⟨⟩) else pure ⟨⟩
  if h2 : Scalar.cmpi .ne (Scalar.extui (Scalar.cmpi .slt arg1 30#32) : BitVec 32) 0#32 = 1#1 then
    chunks arg2 arg3 arg5 arg6 arg0 arg1 (fun _ x => x) 64 (.ret ⟨⟩) else pure ⟨⟩
  if h3 : Scalar.cmpi .ne (Scalar.extui (Scalar.cmpi .eq arg1 30#32) : BitVec 32) 0#32 = 1#1 then
    chunks arg2 arg3 arg5 arg6 arg0 arg1 clip 64 (finish arg4 arg5 arg6 arg0) else pure ⟨⟩
  pure ⟨⟩

/-- The printed body is `work`. -/
theorem body_eq (i : grid0.Coords) (harg2 : arg2.IsWhole) (harg3 : arg3.IsWhole) (harg4 : arg4.IsWhole)
    (harg5 : arg5.IsWhole) (harg6 : arg6.IsWhole) :
    cc0__sample_kernel (F := F) i arg2 harg2 arg3 harg3 arg4 harg4 arg5 harg5 arg6 harg6 = work arg2 arg3 arg4 arg5 arg6 i := by
  chain_rfl

end Cert.KernelIdeal.Hand

end
-- ==== Proof.Access.lean ====
/- A load or an unmasked store through a unit-stride rectangle, of a memref held at what it reads: the load continues
   at the values under the rectangle, the store leaves the values with the payload put over the rectangle. -/
module

public import Idealize.ShloMosaic.Lib.VecWindow
public import Idealize.ShloMosaic.Lib.Memref
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (𝒱 : Variants) (c : Thread nD τ) (bd : Option 𝒱.V) (E : Set Name)
variable {cs : CoreSpace} {s : Shape} {e : EltTy} {α : Type}

theorem load_owned {m : Memref sig c.2.kind cs s e} {r : Rect s} {hl : m.view.LoadsAt r.toLoadRect}
    {k : (r.shape.Idx → Val e) → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  have h := wp_load (Γ := .nil) (Ix := Ix) (Name := Name) (U := U) (defs := defs) 𝒱 c bd E (m := m) (r := r.toLoadRect) (hl := hl) (k := k) (Q := Q)
    (q := q) (f := f) (m.view.setOn_subset_set r.toLoadRect.set)
  have hr : m.view.readAt Val r.toLoadRect f = fun j => X (r.emb j) := by subst hf; rfl
  rw [hr] at h
  ihave H := h $$ H
  iapply H
  iintro H
  iapply Hk
  iexists f
  isplitr
  · ipureintro; exact hf
  iexact H

theorem store_owned {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} {Q : α → sProp 𝕄} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  have h := wp_store (Γ := .nil) (Ix := Ix) (Name := Name) (U := U) (defs := defs) 𝒱 c bd E (m := m) (r := Rect.unit off size inb) (w := w) (hx := hx) (hm := hm) (k := k) (Q := Q)
    (f := f) (S := m.view.set) (((m.access (Rect.unit off size inb)).setOn_subset_set Finset.univ).trans (m.view.set_slice_subset _))
  ihave H := h $$ H
  iapply H
  iintro H
  iapply Hk
  iexists ((m.access (Rect.unit off size inb)).write Val f w Finset.univ)
  isplitr
  · ipureintro
    have := View.read_writes_cons_put m.view f inb w [] rfl
    rw [View.writes_nil, hf] at this
    exact this
  iexact H

end Cert.Proof

end
-- ==== Proof.IdealStep.lean ====
/- One block's work on the two running buffers: what each column's best sum and its counter become, and that the 64
   chunks in order, each storing its own columns, leave exactly that. -/
module

public import proofs.«01_k».proof.Proof.IdealText
public import proofs.«01_k».proof.Proof.Access
public import Idealize.ShloMosaic.Lib.Pointwise.Reshape

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Proof

variable {F : FTy → Type} [FloatOps F] [Facts]

local notation "𝕄" => MT nD τ sig Unit (Elt F) ℕ (UR sig nD τ) ℕ

/-- The kernel's variants: none. -/
abbrev 𝒱₀ : Variants := Variants.none

/-- `new` on the first `n` chunks' columns, `old` on the others. -/
def mix {α : Type} (n : ℕ) (new old : S16x32768.Idx → α) : S16x32768.Idx → α :=
  fun y => if (y 1).val < 512 * n then new y else old y

theorem mix_zero {α : Type} (new old : S16x32768.Idx → α) : mix 0 new old = old := by
  funext y; exact if_neg (by omega)

theorem mix_all {α : Type} (new old : S16x32768.Idx → α) : mix 64 new old = new := by
  funext y
  have h : (y 1).val < 32768 := (y 1).isLt
  exact if_pos (by omega)

theorem emb_col (n : ℕ) (j : (cols n).shape.Idx) : ((cols n).emb j 1).val = 512 * (n % 64) + (j 1).val := by
  show 512 * (n % 64) + 1 * (j 1).val = _
  omega

/-- Chunk `n`'s columns are read before the chunk stores them. -/
theorem mix_emb {α : Type} {n : ℕ} (hn : n < 64) (new old : S16x32768.Idx → α) (j : (cols n).shape.Idx) :
    mix n new old ((cols n).emb j) = old ((cols n).emb j) := by
  refine if_neg ?_
  rw [emb_col, Nat.mod_eq_of_lt hn]; omega

/-- The chunk's store moves the frontier on by its columns. -/
theorem put_mix {α : Type} {n : ℕ} (hn : n < 64) (new old : S16x32768.Idx → α) :
    VecWindow.put (s := S16x32768) (mix n new old) ![0, 512 * (n % 64)] S16x512.size (fun j => new ((cols n).emb j)) = mix (n + 1) new old := by
  have hm : n % 64 = n := Nat.mod_eq_of_lt hn
  funext y
  have hr : (y 0).val < 16 := (y 0).isLt
  unfold VecWindow.put mix
  by_cases h : 512 * n ≤ (y 1).val ∧ (y 1).val < 512 * n + 512
  · have hy : ∀ a, (![0, 512 * (n % 64)] : Fin 2 → ℕ) a ≤ (y a).val ∧ (y a).val < (![0, 512 * (n % 64)] : Fin 2 → ℕ) a + S16x512.size a := by
      intro a; fin_cases a
      · exact ⟨Nat.zero_le _, by show (y 0).val < 0 + 16; omega⟩
      · rw [hm]; exact h
    rw [dif_pos hy, if_pos (by omega)]
    refine congrArg new (funext fun a => Fin.ext ?_)
    show (![0, 512 * (n % 64)] : Fin 2 → ℕ) a + 1 * ((y a).val - (![0, 512 * (n % 64)] : Fin 2 → ℕ) a) = (y a).val
    have := (hy a).1
    omega
  · rw [dif_neg fun hy => h (by have := hy 1; rw [hm] at this; exact this)]
    by_cases h1 : (y 1).val < 512 * n
    · rw [if_pos h1, if_pos (by omega)]
    · rw [if_neg h1, if_neg (by omega)]

section Values

variable (arg0 arg1 : BitVec 32) (keep : FVec F S16x32768 .f32 → FVec F S16x32768 .f32)
  (base : IVec S16x32768 32) (x rv : FVec F S16x32768 .f32) (ri : IVec S16x32768 32)

/-- A block's counters. -/
def ctrs : IVec S16x32768 32 :=
  addi base (broadcast S16x32768 (Scalar.addi (Scalar.muli arg0 16000000#32) (Scalar.muli arg1 32768#32)))

/-- A block's sums of noise and logit, as far as `keep` keeps them. -/
def sums : FVec F S16x32768 .f32 := keep (addf (noise (ctrs arg0 arg1 base)) x)

/-- Each column's best sum after the block: the block's where it is greater. -/
def newBest : FVec F S16x32768 .f32 :=
  select (cmpf .ogt (sums arg0 arg1 keep base x) rv) (sums arg0 arg1 keep base x) rv

/-- Each column's counter of its best sum after the block. -/
def newAt : IVec S16x32768 32 :=
  select (cmpf .ogt (sums arg0 arg1 keep base x) rv) (ctrs arg0 arg1 base) ri

end Values

/-- What the last block keeps: the sums of the columns inside the array. -/
def clipBlock (x : FVec F S16x32768 .f32) : FVec F S16x32768 .f32 :=
  fun y => if (y 1).val < 16960 then x y else Scalar.ofBits .f32 0xFF800000#32

/-- A chunk's clip is the block's, on the chunk's columns. -/
theorem clip_emb {n : ℕ} (hn : n < 64) (x : FVec F S16x32768 .f32) :
    clip n (fun j => x ((cols n).emb j)) = fun j => clipBlock x ((cols n).emb j) := by
  funext j
  have hj : (j 1).val < 512 := (j 1).isLt
  have hw : IntOp.addi (BitVec.ofNat 32 (0 * 512 + (j 1).val)) (BitVec.ofNat 32 (512 * n)) = BitVec.ofNat 32 (512 * n + (j 1).val) := by
    unfold IntOp.addi; apply BitVec.eq_of_toNat_eq; simp; omega
  have hc : (IntOp.cmpi .slt (IntOp.addi (BitVec.ofNat 32 (0 * 512 + (j 1).val)) (BitVec.ofNat 32 (512 * n))) 16960#32 = 1)
      = (((cols n).emb j 1).val < 16960) := by
    rw [hw, WordCmp.cmpi_slt_ofNat (by omega) (by omega), WordCmp.ofBool_eq_one_iff', decide_eq_true_iff, emb_col,
      Nat.mod_eq_of_lt hn]
  exact if_congr (iff_of_eq hc) rfl rfl

variable (arg2 : Memref sig .tc .vmem S16x32768 .i32) (arg3 : Memref sig .tc .vmem S16x32768 .f32)
  (arg4 : Memref sig .tc .vmem S16x1 .i32) (arg5 : Memref sig .tc .vmem S16x32768 .f32)
  (arg6 : Memref sig .tc .vmem S16x32768 .i32) (arg0 arg1 : BitVec 32)
  (c : Dev nD) (base : IVec S16x32768 32) (x rv : FVec F S16x32768 .f32) (ri : IVec S16x32768 32)

/-- The four buffers a chunk touches, the running two with the first `n` chunks done. -/
def held (keep : FVec F S16x32768 .f32 → FVec F S16x32768 .f32) (n : ℕ) : sProp 𝕄 :=
  iprop(owns (c : Thread nD τ) arg2 fullShare base ∗ owns (c : Thread nD τ) arg3 fullShare x
    ∗ owns (c : Thread nD τ) arg5 fullShare (mix n (newBest arg0 arg1 keep base x rv) rv)
    ∗ owns (c : Thread nD τ) arg6 fullShare (mix n (newAt arg0 arg1 keep base x rv ri) ri))

theorem chunk_run {keep : FVec F S16x32768 .f32 → FVec F S16x32768 .f32} {keepc : FVec F S16x512 .f32 → FVec F S16x512 .f32}
    {n : ℕ} (hn : n < 64) (hk : ∀ v : FVec F S16x32768 .f32, keepc (fun j => v ((cols n).emb j)) = fun j => keep v ((cols n).emb j))
    (rest : Prog (TpuEff nD τ sig (Elt F) Λ₀ .tc) PUnit) (K : PUnit → sProp 𝕄) :
    iprop(held arg2 arg3 arg5 arg6 arg0 arg1 c base x rv ri keep n
        ∗ (held arg2 arg3 arg5 arg6 arg0 arg1 c base x rv ri keep (n + 1)
          -∗ wp frame (wpE (defs₀ (F := F)) 𝒱₀ c none) Set.univ rest K))
      ⊢ wp frame (wpE (defs₀ (F := F)) 𝒱₀ c none) Set.univ (chunk arg2 arg3 arg5 arg6 arg0 arg1 keepc n rest) K := by
  have hctr : counters arg0 arg1 (fun j => base ((cols n).emb j)) = fun j => ctrs arg0 arg1 base ((cols n).emb j) := by
    unfold counters; rw [shapeCast_id]; rfl
  have hsum : keepc (addf (noise (counters arg0 arg1 (fun j => base ((cols n).emb j)))) (fun j => x ((cols n).emb j)))
      = fun j => sums arg0 arg1 keep base x ((cols n).emb j) := by
    rw [hctr]; exact hk (addf (noise (ctrs arg0 arg1 base)) x)
  have h5 : VecWindow.put (s := S16x32768) (mix n (newBest arg0 arg1 keep base x rv) rv) ![0, 512 * (n % 64)] S16x512.size
      (select (cmpf .ogt (keepc (addf (noise (counters arg0 arg1 (fun j => base ((cols n).emb j)))) (fun j => x ((cols n).emb j))))
          (fun j => rv ((cols n).emb j)))
        (keepc (addf (noise (counters arg0 arg1 (fun j => base ((cols n).emb j)))) (fun j => x ((cols n).emb j)))) (fun j => rv ((cols n).emb j)))
      = mix (n + 1) (newBest arg0 arg1 keep base x rv) rv := by
    rw [hsum]; exact put_mix hn _ _
  have h6 : VecWindow.put (s := S16x32768) (mix n (newAt arg0 arg1 keep base x rv ri) ri) ![0, 512 * (n % 64)] S16x512.size
      (select (cmpf .ogt (keepc (addf (noise (counters arg0 arg1 (fun j => base ((cols n).emb j)))) (fun j => x ((cols n).emb j))))
          (fun j => rv ((cols n).emb j)))
        (counters arg0 arg1 (fun j => base ((cols n).emb j))) (fun j => ri ((cols n).emb j)))
      = mix (n + 1) (newAt arg0 arg1 keep base x rv ri) ri := by
    rw [hsum, hctr]; exact put_mix hn _ _
  unfold held chunk
  iintro ⟨⟨H2, H3, H5, H6⟩, Hk⟩
  iapply (load_owned 𝒱₀ c none Set.univ) $$ H2; iintro H2
  iapply (load_owned 𝒱₀ c none Set.univ) $$ H3; iintro H3
  iapply (load_owned 𝒱₀ c none Set.univ) $$ H5; iintro H5
  iapply (load_owned 𝒱₀ c none Set.univ) $$ H5; iintro H5
  iapply (load_owned 𝒱₀ c none Set.univ) $$ H5; iintro H5
  iapply (store_owned 𝒱₀ c none Set.univ) $$ H5; iintro H5
  iapply (load_owned 𝒱₀ c none Set.univ) $$ H6; iintro H6
  iapply (load_owned 𝒱₀ c none Set.univ) $$ H6; iintro H6
  iapply (store_owned 𝒱₀ c none Set.univ) $$ H6; iintro H6
  iapply Hk
  simp only [mix_emb hn, shapeCast_id]
  isplitl [H2]; · iexact H2
  isplitl [H3]; · iexact H3
  isplitl [H5]
  · rw [← h5]; iexact H5
  · rw [← h6]; iexact H6

end Cert.KernelIdeal.Hand

end
-- ==== Proof.IdealPoint.lean ====
/- One grid point's work: the first block of a row block starts the running buffers, every block improves them, the
   last one, clipped, also reduces them to the row winners. -/
module

public import proofs.«01_k».proof.Proof.IdealStep

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Proof

variable {F : FTy → Type} [FloatOps F] [Facts]

local notation "𝕄" => MT nD τ sig Unit (Elt F) ℕ (UR sig nD τ) ℕ

/-- A store over a whole buffer leaves its payload. -/
theorem put_whole {α : Type} {s : Shape} {off : Fin s.rank → ℕ} (h0 : ∀ a, off a = 0) (X w : s.Idx → α) :
    VecWindow.put X off s.size w = w := by
  funext y
  have hy : ∀ a, off a ≤ (y a).val ∧ (y a).val < off a + s.size a := fun a => by
    rw [h0 a]; exact ⟨Nat.zero_le _, by have := (y a).isLt; omega⟩
  unfold VecWindow.put
  rw [dif_pos hy]
  refine congrArg w (funext fun a => Fin.ext ?_)
  show (y a).val - off a = (y a).val
  rw [h0 a, Nat.sub_zero]

/-- A load over a whole buffer reads its contents. -/
theorem emb_whole {α : Type} {s : Shape} {off : Fin s.rank → ℕ} (h0 : ∀ a, off a = 0) {inb : ∀ a, off a + s.size a ≤ s.size a}
    (X : s.Idx → α) : (fun j => X ((Rect.unit off s.size inb).emb j)) = X := by
  funext y
  refine congrArg X (funext fun a => Fin.ext ?_)
  show off a + 1 * (y a).val = (y a).val
  rw [h0 a]; omega

theorem zero2 (a : Fin 2) : (![0, 0] : Fin 2 → ℕ) a = 0 := by fin_cases a <;> rfl

section Values

variable (k : ℕ)

/-- What block `k` keeps of its sums: all, but the last block only the columns inside the array. -/
def blockKeep : FVec F S16x32768 .f32 → FVec F S16x32768 .f32 := if k = 30 then clipBlock else fun x => x

/-- The best sums block `k` starts from. -/
def firstBest (rv : FVec F S16x32768 .f32) : FVec F S16x32768 .f32 := if k = 0 then fun _ => Scalar.ofBits .f32 0xFF800000#32 else rv

/-- The counters block `k` starts from. -/
def firstAt (ri : IVec S16x32768 32) : IVec S16x32768 32 := if k = 0 then fun _ => 1073741824#32 else ri

variable (arg0 arg1 : BitVec 32) (base : IVec S16x32768 32) (x rv : FVec F S16x32768 .f32) (ri : IVec S16x32768 32)

/-- The best sums after block `k`. -/
def bestAfter : FVec F S16x32768 .f32 := newBest arg0 arg1 (blockKeep k) base x (firstBest k rv)

/-- Their counters. -/
def atAfter : IVec S16x32768 32 := newAt arg0 arg1 (blockKeep k) base x (firstBest k rv) (firstAt k ri)

end Values

variable (arg2 : Memref sig .tc .vmem S16x32768 .i32) (arg3 : Memref sig .tc .vmem S16x32768 .f32)
  (arg4 : Memref sig .tc .vmem S16x1 .i32) (arg5 : Memref sig .tc .vmem S16x32768 .f32)
  (arg6 : Memref sig .tc .vmem S16x32768 .i32) (arg0 arg1 : BitVec 32)
  (c : Dev nD) (base : IVec S16x32768 32) (x rv : FVec F S16x32768 .f32) (ri : IVec S16x32768 32) (O : IVec S16x1 32)

theorem chunks_upto {keep : FVec F S16x32768 .f32 → FVec F S16x32768 .f32} {keepc : ℕ → FVec F S16x512 .f32 → FVec F S16x512 .f32}
    (hk : ∀ n, n < 64 → ∀ v : FVec F S16x32768 .f32, keepc n (fun j => v ((cols n).emb j)) = fun j => keep v ((cols n).emb j))
    (K : PUnit → sProp 𝕄) (n : ℕ) (hn : n ≤ 64) : ∀ rest : Prog (TpuEff nD τ sig (Elt F) Λ₀ .tc) PUnit,
    iprop(held arg2 arg3 arg5 arg6 arg0 arg1 c base x rv ri keep 0
        ∗ (held arg2 arg3 arg5 arg6 arg0 arg1 c base x rv ri keep n
          -∗ wp frame (wpE (defs₀ (F := F)) 𝒱₀ c none) Set.univ rest K))
      ⊢ wp frame (wpE (defs₀ (F := F)) 𝒱₀ c none) Set.univ (chunks arg2 arg3 arg5 arg6 arg0 arg1 keepc n rest) K := by
  induction n with
  | zero =>
    intro rest
    iintro ⟨H, Hk⟩
    iapply Hk; iexact H
  | succ n ih =>
    intro rest
    refine BIBase.Entails.trans ?_ (ih (by omega) (chunk arg2 arg3 arg5 arg6 arg0 arg1 (keepc n) n rest))
    iintro ⟨H, Hk⟩
    isplitl [H]; · iexact H
    iintro H
    iapply (chunk_run arg2 arg3 arg5 arg6 arg0 arg1 c base x rv ri (by omega) (hk n (by omega)) rest K)
    isplitl [H]; · iexact H
    iexact Hk

/-- A whole block's chunks: the running buffers end at the block's improvements. -/
theorem chunks_run {keep : FVec F S16x32768 .f32 → FVec F S16x32768 .f32} {keepc : ℕ → FVec F S16x512 .f32 → FVec F S16x512 .f32}
    (hk : ∀ n, n < 64 → ∀ v : FVec F S16x32768 .f32, keepc n (fun j => v ((cols n).emb j)) = fun j => keep v ((cols n).emb j))
    (rest : Prog (TpuEff nD τ sig (Elt F) Λ₀ .tc) PUnit) (K : PUnit → sProp 𝕄) :
    iprop((owns (c : Thread nD τ) arg2 fullShare base ∗ owns (c : Thread nD τ) arg3 fullShare x
          ∗ owns (c : Thread nD τ) arg5 fullShare rv ∗ owns (c : Thread nD τ) arg6 fullShare ri)
        ∗ ((owns (c : Thread nD τ) arg2 fullShare base ∗ owns (c : Thread nD τ) arg3 fullShare x
            ∗ owns (c : Thread nD τ) arg5 fullShare (newBest arg0 arg1 keep base x rv)
            ∗ owns (c : Thread nD τ) arg6 fullShare (newAt arg0 arg1 keep base x rv ri))
          -∗ wp frame (wpE (defs₀ (F := F)) 𝒱₀ c none) Set.univ rest K))
      ⊢ wp frame (wpE (defs₀ (F := F)) 𝒱₀ c none) Set.univ (chunks arg2 arg3 arg5 arg6 arg0 arg1 keepc 64 rest) K := by
  have h := chunks_upto arg2 arg3 arg5 arg6 arg0 arg1 c base x rv ri hk K 64 le_rfl rest
  unfold held at h
  rw [mix_zero, mix_zero, mix_all, mix_all] at h
  exact h

theorem start_run (rest : Prog (TpuEff nD τ sig (Elt F) Λ₀ .tc) PUnit) (K : PUnit → sProp 𝕄) :
    iprop((owns (c : Thread nD τ) arg5 fullShare rv ∗ owns (c : Thread nD τ) arg6 fullShare ri)
        ∗ ((owns (c : Thread nD τ) arg5 fullShare (fun _ => (Scalar.ofBits .f32 0xFF800000#32 : F .f32))
            ∗ owns (c : Thread nD τ) arg6 fullShare (fun _ => 1073741824#32))
          -∗ wp frame (wpE (defs₀ (F := F)) 𝒱₀ c none) Set.univ rest K))
      ⊢ wp frame (wpE (defs₀ (F := F)) 𝒱₀ c none) Set.univ (start arg5 arg6 rest) K := by
  have h5 : VecWindow.put (s := S16x32768) rv ![0, 0] S16x32768.size
      (broadcast S16x32768 (Scalar.ofBits .f32 0xFF800000#32 : F .f32)) = fun _ => Scalar.ofBits .f32 0xFF800000#32 :=
    put_whole zero2 _ _
  have h6 : VecWindow.put (s := S16x32768) ri ![0, 0] S16x32768.size
      (broadcast S16x32768 1073741824#32) = fun _ => 1073741824#32 := put_whole zero2 _ _
  unfold start
  iintro ⟨⟨H5, H6⟩, Hk⟩
  iapply (load_owned 𝒱₀ c none Set.univ) $$ H5; iintro H5
  iapply (store_owned 𝒱₀ c none Set.univ) $$ H5; iintro H5
  iapply (load_owned 𝒱₀ c none Set.univ) $$ H6; iintro H6
  iapply (store_owned 𝒱₀ c none Set.univ) $$ H6; iintro H6
  iapply Hk
  simp only [shapeCast_id]
  isplitl [H5]
  · rw [← h5]; iexact H5
  · rw [← h6]; iexact H6

theorem finish_run (K : PUnit → sProp 𝕄) :
    iprop((owns (c : Thread nD τ) arg4 fullShare O ∗ owns (c : Thread nD τ) arg5 fullShare rv ∗ owns (c : Thread nD τ) arg6 fullShare ri)
        ∗ ((owns (c : Thread nD τ) arg4 fullShare (winners arg0 rv ri) ∗ owns (c : Thread nD τ) arg5 fullShare rv
            ∗ owns (c : Thread nD τ) arg6 fullShare ri) -∗ K ⟨⟩))
      ⊢ wp frame (wpE (defs₀ (F := F)) 𝒱₀ c none) Set.univ (finish arg4 arg5 arg6 arg0) K := by
  have h4 : VecWindow.put (s := S16x1) O ![0, 0] S16x1.size (winners arg0
      (fun j => rv ((Rect.unit (s := S16x32768) ![0, 0] S16x32768.size inb_S16x32768_S16x32768_0_0).emb j))
      (fun j => ri ((Rect.unit (s := S16x32768) ![0, 0] S16x32768.size inb_S16x32768_S16x32768_0_0).emb j))) = winners arg0 rv ri := by
    have e5 := emb_whole (s := S16x32768) zero2 (inb := inb_S16x32768_S16x32768_0_0) rv
    have e6 := emb_whole (s := S16x32768) zero2 (inb := inb_S16x32768_S16x32768_0_0) ri
    exact (put_whole zero2 _ _).trans (congrArg₂ (winners arg0) e5 e6)
  unfold finish
  iintro ⟨⟨H4, H5, H6⟩, Hk⟩
  iapply (load_owned 𝒱₀ c none Set.univ) $$ H5; iintro H5
  iapply (load_owned 𝒱₀ c none Set.univ) $$ H6; iintro H6
  iapply (load_owned 𝒱₀ c none Set.univ) $$ H4; iintro H4
  iapply (store_owned 𝒱₀ c none Set.univ) $$ H4; iintro H4
  rw [wp_ret]
  imodintro
  iapply Hk
  isplitl [H4]
  · rw [← h4]; iexact H4
  isplitl [H5]; · iexact H5
  iexact H6

/-- Composing the chunks with what follows them. -/
theorem chunks_bind {keepc : ℕ → FVec F S16x512 .f32 → FVec F S16x512 .f32} (f : PUnit → Prog (TpuEff nD τ sig (Elt F) Λ₀ .tc) PUnit)
    (n : ℕ) : ∀ rest, (chunks arg2 arg3 arg5 arg6 arg0 arg1 keepc n rest >>= f) = chunks arg2 arg3 arg5 arg6 arg0 arg1 keepc n (rest >>= f) := by
  induction n with
  | zero => intro rest; rfl
  | succ n ih => intro rest; exact ih _

theorem start_bind (f : PUnit → Prog (TpuEff nD τ sig (Elt F) Λ₀ .tc) PUnit) (rest : Prog (TpuEff nD τ sig (Elt F) Λ₀ .tc) PUnit) :
    (start arg5 arg6 rest >>= f) = start arg5 arg6 (rest >>= f) := rfl

theorem finish_bind : (finish (F := F) arg4 arg5 arg6 arg0 >>= fun _ => pure ⟨⟩) = finish arg4 arg5 arg6 arg0 := rfl

theorem ret_then (f : PUnit → Prog (TpuEff nD τ sig (Elt F) Λ₀ .tc) PUnit) :
    ((.ret ⟨⟩ : Prog (TpuEff nD τ sig (Elt F) Λ₀ .tc) PUnit) >>= f) = f ⟨⟩ := rfl

theorem pure_then (f : PUnit → Prog (TpuEff nD τ sig (Elt F) Λ₀ .tc) PUnit) :
    ((pure ⟨⟩ : Prog (TpuEff nD τ sig (Elt F) Λ₀ .tc) PUnit) >>= f) = f ⟨⟩ := rfl

/-- The three conditions of the body, of the block's number. -/
theorem cond_first : ∀ k : Fin 31,
    (Scalar.cmpi .ne (Scalar.extui (Scalar.cmpi .eq (BitVec.ofNat 32 k.val) 0#32) : BitVec 32) 0#32 = 1#1) = (k.val = 0) := by decide
theorem cond_inner : ∀ k : Fin 31,
    (Scalar.cmpi .ne (Scalar.extui (Scalar.cmpi .slt (BitVec.ofNat 32 k.val) 30#32) : BitVec 32) 0#32 = 1#1) = (k.val < 30) := by decide
theorem cond_last : ∀ k : Fin 31,
    (Scalar.cmpi .ne (Scalar.extui (Scalar.cmpi .eq (BitVec.ofNat 32 k.val) 30#32) : BitVec 32) 0#32 = 1#1) = (k.val = 30) := by decide

/-- The first block's work: start, then the chunks. -/
theorem work_first (i : grid0.Coords) (h0 : (i 1).val = 0) :
    work (F := F) arg2 arg3 arg4 arg5 arg6 i = start arg5 arg6 (chunks arg2 arg3 arg5 arg6 (BitVec.ofNat 32 (i 0).val)
      (BitVec.ofNat 32 (i 1).val) (fun _ x => x) 64 (.ret ⟨⟩)) := by
  unfold work
  rw [dif_pos ((cond_first (i 1)).mpr h0), dif_pos ((cond_inner (i 1)).mpr (by omega)),
    dif_neg (fun h => by have := (cond_last (i 1)).mp h; omega)]
  simp only [start_bind, chunks_bind, ret_then, pure_then]
  rfl

/-- An inner block's work: the chunks. -/
theorem work_inner (i : grid0.Coords) (h0 : (i 1).val ≠ 0) (h30 : (i 1).val < 30) :
    work (F := F) arg2 arg3 arg4 arg5 arg6 i = chunks arg2 arg3 arg5 arg6 (BitVec.ofNat 32 (i 0).val)
      (BitVec.ofNat 32 (i 1).val) (fun _ x => x) 64 (.ret ⟨⟩) := by
  unfold work
  rw [dif_neg (fun h => h0 ((cond_first (i 1)).mp h)), dif_pos ((cond_inner (i 1)).mpr h30),
    dif_neg (fun h => by have := (cond_last (i 1)).mp h; omega)]
  simp only [chunks_bind, ret_then, pure_then]
  rfl

/-- The last block's work: the clipped chunks, then the reduction. -/
theorem work_last (i : grid0.Coords) (h30 : (i 1).val = 30) :
    work (F := F) arg2 arg3 arg4 arg5 arg6 i = chunks arg2 arg3 arg5 arg6 (BitVec.ofNat 32 (i 0).val)
      (BitVec.ofNat 32 (i 1).val) clip 64 (finish arg4 arg5 arg6 (BitVec.ofNat 32 (i 0).val)) := by
  unfold work
  rw [dif_neg (fun h => by have := (cond_first (i 1)).mp h; omega), dif_neg (fun h => by have := (cond_inner (i 1)).mp h; omega),
    dif_pos ((cond_last (i 1)).mpr h30)]
  simp only [chunks_bind, ret_then, pure_then, finish_bind]

/-- A grid point's work at its block's number: what the five buffers end holding. -/
theorem work_run (i : grid0.Coords) (K : PUnit → sProp 𝕄) :
    iprop((owns (c : Thread nD τ) arg2 fullShare base ∗ owns (c : Thread nD τ) arg3 fullShare x ∗ owns (c : Thread nD τ) arg4 fullShare O
          ∗ owns (c : Thread nD τ) arg5 fullShare rv ∗ owns (c : Thread nD τ) arg6 fullShare ri)
        ∗ ((owns (c : Thread nD τ) arg2 fullShare base ∗ owns (c : Thread nD τ) arg3 fullShare x
            ∗ owns (c : Thread nD τ) arg4 fullShare (if (i 1).val = 30 then winners (BitVec.ofNat 32 (i 0).val)
                (bestAfter (i 1).val (BitVec.ofNat 32 (i 0).val) (BitVec.ofNat 32 (i 1).val) base x rv)
                (atAfter (i 1).val (BitVec.ofNat 32 (i 0).val) (BitVec.ofNat 32 (i 1).val) base x rv ri) else O)
            ∗ owns (c : Thread nD τ) arg5 fullShare (bestAfter (i 1).val (BitVec.ofNat 32 (i 0).val) (BitVec.ofNat 32 (i 1).val) base x rv)
            ∗ owns (c : Thread nD τ) arg6 fullShare (atAfter (i 1).val (BitVec.ofNat 32 (i 0).val) (BitVec.ofNat 32 (i 1).val) base x rv ri)) -∗ K ⟨⟩))
      ⊢ wp frame (wpE (defs₀ (F := F)) 𝒱₀ c none) Set.univ (work arg2 arg3 arg4 arg5 arg6 i) K := by
  have hk : (i 1).val < 31 := (i 1).isLt
  have hid : ∀ n, n < 64 → ∀ v : FVec F S16x32768 .f32, (fun (_ : ℕ) (x : FVec F S16x512 .f32) => x) n (fun j => v ((cols n).emb j))
      = fun j => (fun x : FVec F S16x32768 .f32 => x) v ((cols n).emb j) := fun _ _ _ => rfl
  by_cases h0 : (i 1).val = 0
  · rw [work_first arg2 arg3 arg4 arg5 arg6 i h0]
    unfold bestAfter atAfter blockKeep firstBest firstAt
    simp only [if_pos h0, if_neg (show ¬(i 1).val = 30 by omega)]
    iintro ⟨⟨H2, H3, H4, H5, H6⟩, Hk⟩
    iapply (start_run arg5 arg6 c rv ri _ K)
    isplitl [H5 H6]
    · isplitl [H5]; · iexact H5
      iexact H6
    iintro ⟨H5, H6⟩
    iapply (chunks_run arg2 arg3 arg5 arg6 _ _ c base x _ _ hid _ K)
    isplitl [H2 H3 H5 H6]
    · isplitl [H2]; · iexact H2
      isplitl [H3]; · iexact H3
      isplitl [H5]; · iexact H5
      iexact H6
    iintro ⟨H2, H3, H5, H6⟩
    rw [wp_ret]
    imodintro
    iapply Hk
    isplitl [H2]; · iexact H2
    isplitl [H3]; · iexact H3
    isplitl [H4]; · iexact H4
    isplitl [H5]; · iexact H5
    iexact H6
  by_cases h30 : (i 1).val = 30
  · rw [work_last arg2 arg3 arg4 arg5 arg6 i h30]
    unfold bestAfter atAfter blockKeep firstBest firstAt
    simp only [if_neg h0, if_pos h30]
    iintro ⟨⟨H2, H3, H4, H5, H6⟩, Hk⟩
    iapply (chunks_run arg2 arg3 arg5 arg6 _ _ c base x _ _ (fun n hn v => clip_emb hn v) _ K)
    isplitl [H2 H3 H5 H6]
    · isplitl [H2]; · iexact H2
      isplitl [H3]; · iexact H3
      isplitl [H5]; · iexact H5
      iexact H6
    iintro ⟨H2, H3, H5, H6⟩
    iapply (finish_run arg4 arg5 arg6 (BitVec.ofNat 32 (i 0).val) c _ _ O K)
    isplitl [H4 H5 H6]
    · isplitl [H4]; · iexact H4
      isplitl [H5]; · iexact H5
      iexact H6
    iintro ⟨H4, H5, H6⟩
    iapply Hk
    isplitl [H2]; · iexact H2
    isplitl [H3]; · iexact H3
    isplitl [H4]; · iexact H4
    isplitl [H5]; · iexact H5
    iexact H6
  · rw [work_inner arg2 arg3 arg4 arg5 arg6 i h0 (by omega)]
    unfold bestAfter atAfter blockKeep firstBest firstAt
    simp only [if_neg h0, if_neg h30]
    iintro ⟨⟨H2, H3, H4, H5, H6⟩, Hk⟩
    iapply (chunks_run arg2 arg3 arg5 arg6 _ _ c base x _ _ hid _ K)
    isplitl [H2 H3 H5 H6]
    · isplitl [H2]; · iexact H2
      isplitl [H3]; · iexact H3
      isplitl [H5]; · iexact H5
      iexact H6
    iintro ⟨H2, H3, H5, H6⟩
    rw [wp_ret]
    imodintro
    iapply Hk
    isplitl [H2]; · iexact H2
    isplitl [H3]; · iexact H3
    isplitl [H4]; · iexact H4
    isplitl [H5]; · iexact H5
    iexact H6

end Cert.KernelIdeal.Hand

end
-- ==== Proof.IdealBlocks.lean ====
/- The kernel's whole walk over the logits as functions: what the two running buffers hold after each block of a row
   block, and that what a fetch leaves past the array's end changes nothing of it. -/
module

public import proofs.«01_k».proof.Proof.IdealPoint
public import proofs.«01_k».proof.Proof.Gen.KernelIdeal.Points
public import proofs.«01_k».proof.Proof.Gen.KernelIdeal.Frame

@[expose] public section

noncomputable section

namespace Cert.KernelIdeal.Hand

open Idealize.ShloMosaic Idealize.ShloMosaic.TcCoe
open Cert.KernelIdeal Cert.KernelIdeal.Gen Cert.KernelIdeal.Facts₀ Cert.KernelIdeal.Facts Cert.Proof

variable {F : FTy → Type} [FloatOps F]

/-- The logits' index at row `i`, column `j`. -/
def logitIx (i j : ℕ) : S32x1000000.Idx := fun a =>
  match a with
  | ⟨0, _⟩ => ⟨i % 32, Nat.mod_lt _ (by decide)⟩
  | ⟨1, _⟩ => ⟨j % 1000000, Nat.mod_lt _ (by decide)⟩

section Walk

variable (L : FVec F S32x1000000 .f32) (B : IVec S16x32768 32) (r : ℕ)

/-- Block `k` of row block `r` of the logits, with some word past the array's end. -/
def xblk (k : ℕ) : FVec F S16x32768 .f32 := fun y =>
  if 32768 * k + (y 1).val < 1000000 then L (logitIx (16 * r + (y 0).val) (32768 * k + (y 1).val)) else Scalar.ofBits .f32 0#32

/-- The best sums after `k` blocks of row block `r`. -/
def bestOf : ℕ → FVec F S16x32768 .f32
  | 0 => fun _ => Scalar.ofBits .f32 0#32
  | k + 1 => bestAfter k (BitVec.ofNat 32 r) (BitVec.ofNat 32 k) B (xblk L r k) (bestOf k)

/-- Their counters. -/
def atOf : ℕ → IVec S16x32768 32
  | 0 => fun _ => 0#32
  | k + 1 => atAfter k (BitVec.ofNat 32 r) (BitVec.ofNat 32 k) B (xblk L r k) (bestOf L B r k) (atOf k)

/-- The row block's winners. -/
def won : IVec S16x1 32 := winners (BitVec.ofNat 32 r) (bestOf L B r 31) (atOf L B r 31)

end Walk

/-- Blocks that agree inside the array have the same kept sums. -/
theorem sums_congr {k : ℕ} (hk : k < 31) (arg0 arg1 : BitVec 32) (base : IVec S16x32768 32) {x x' : FVec F S16x32768 .f32}
    (h : ∀ y : S16x32768.Idx, 32768 * k + (y 1).val < 1000000 → x y = x' y) :
    sums arg0 arg1 (blockKeep k) base x = sums arg0 arg1 (blockKeep k) base x' := by
  funext y
  have hy : (y 1).val < 32768 := (y 1).isLt
  unfold sums blockKeep
  by_cases h30 : k = 30
  · rw [if_pos h30]
    show (if (y 1).val < 16960 then FloatOps.addf (noise (ctrs arg0 arg1 base) y) (x y) else _)
      = if (y 1).val < 16960 then FloatOps.addf (noise (ctrs arg0 arg1 base) y) (x' y) else _
    by_cases hc : (y 1).val < 16960
    · rw [if_pos hc, if_pos hc, h y (by omega)]
    · rw [if_neg hc, if_neg hc]
  · rw [if_neg h30]
    show FloatOps.addf (noise (ctrs arg0 arg1 base) y) (x y) = FloatOps.addf (noise (ctrs arg0 arg1 base) y) (x' y)
    rw [h y (by omega)]

theorem bestAfter_congr {k : ℕ} (hk : k < 31) (arg0 arg1 : BitVec 32) (base : IVec S16x32768 32) {x x' : FVec F S16x32768 .f32}
    (h : ∀ y : S16x32768.Idx, 32768 * k + (y 1).val < 1000000 → x y = x' y) {rv rv' : FVec F S16x32768 .f32} (hr : k ≠ 0 → rv = rv') :
    bestAfter k arg0 arg1 base x rv = bestAfter k arg0 arg1 base x' rv' := by
  have hf : firstBest k rv = firstBest k rv' := by
    unfold firstBest; split
    · rfl
    · exact hr ‹_›
  unfold bestAfter newBest
  rw [sums_congr hk arg0 arg1 base h, hf]

theorem atAfter_congr {k : ℕ} (hk : k < 31) (arg0 arg1 : BitVec 32) (base : IVec S16x32768 32) {x x' : FVec F S16x32768 .f32}
    (h : ∀ y : S16x32768.Idx, 32768 * k + (y 1).val < 1000000 → x y = x' y) {rv rv' : FVec F S16x32768 .f32} {ri ri' : IVec S16x32768 32}
    (hr : k ≠ 0 → rv = rv') (hi : k ≠ 0 → ri = ri') :
    atAfter k arg0 arg1 base x rv ri = atAfter k arg0 arg1 base x' rv' ri' := by
  have hf : firstBest k rv = firstBest k rv' := by
    unfold firstBest; split
    · rfl
    · exact hr ‹_›
  have hg : firstAt k ri = firstAt k ri' := by
    unfold firstAt; split
    · rfl
    · exact hi ‹_›
  unfold atAfter newAt
  rw [sums_congr hk arg0 arg1 base h, hf, hg]

/-! ## The points' coordinates, and what the windows fetch there -/

theorem coords_eq : ∀ t : Fin grid0.N, (grid0.coords t 0).val = t.val / 31 ∧ (grid0.coords t 1).val = t.val % 31 := by decide +kernel

/-- How many columns of the logits' block are inside the array. -/
theorem xsize_eq : ∀ t : Fin grid0.N, win0_1.xsize (grid0.coords t) 0 = 16
    ∧ win0_1.xsize (grid0.coords t) 1 = if t.val % 31 = 30 then 16960 else 32768 := by decide +kernel

theorem index1_eq : ∀ t : Fin grid0.N, win0_1.index t 0 = t.val / 31 ∧ win0_1.index t 1 = t.val % 31 := by decide +kernel

variable (m : (ℓ : Loc nD τ sig) → Buf (Elt F) ℓ) (c : Dev nD)

/-- The logits as launched, -/
abbrev logits : FVec F S32x1000000 .f32 := m ((c : Thread nD τ).loc main_arg0)

/-- and the base counters the host computes. -/
abbrev baseCtr : IVec S16x32768 32 := V m c main_v6

/-- The base window is the whole array. -/
theorem iblk0_eq (t : Fin cfg0.N) : iblk m c 0 t = baseCtr m c := by
  funext y
  refine congrArg (V m c main_v6) (funext fun a => Fin.ext ?_)
  fin_cases a
  · show 0 * 16 + 1 * (y 0).val = (y 0).val; omega
  · show 0 * 32768 + 1 * (y 1).val = (y 1).val; omega

/-- The logits' buffer after a fetch holds the block, inside the array. -/
theorem fill_eq (t : Fin cfg0.N) (d : S16x32768.Idx → F .f32) (y : S16x32768.Idx) (hy : 32768 * (t.val % 31) + (y 1).val < 1000000) :
    win0_1.fill (grid0.coords t) d (iblk m c 1 t) y = xblk (logits m c) (t.val / 31) (t.val % 31) y := by
  have ht : t.val < 62 := t.isLt
  have h0 : (y 0).val < 16 := (y 0).isLt
  have h1 : (y 1).val < 32768 := (y 1).isLt
  obtain ⟨hx0, hx1⟩ := xsize_eq t
  obtain ⟨hi0, hi1⟩ := index1_eq t
  have hm : win0_1.moved (grid0.coords t) y = true := (win0_1.moved_iff _ y).mpr fun a => by
    fin_cases a
    · exact lt_of_lt_of_eq h0 hx0.symm
    · refine lt_of_lt_of_eq ?_ hx1.symm
      show (y 1).val < _
      split <;> omega
  unfold Pipeline.Window.fill xblk
  rw [dif_pos hm, if_pos hy]
  refine (congrArg (V m c main_arg0) (funext fun a => Fin.ext ?_)).trans (congrFun (V_main_arg0 m c) _)
  fin_cases a
  · show win0_1.index t 0 * 16 + 1 * (y 0).val = (16 * (t.val / 31) + (y 0).val) % 32
    rw [hi0]; omega
  · show win0_1.index t 1 * 32768 + 1 * (y 1).val = (32768 * (t.val % 31) + (y 1).val) % 1000000
    rw [hi1]; omega

end Cert.KernelIdeal.Hand

end
-- ==== Proof.IdealRun.lean ====
/- The pipeline's run: the invariant carried from point to point is what the two running buffers hold, and the result
   array ends written, row block by row block, with the winners. -/
module

public import proofs.«01_k».proof.Proof.IdealBlocks
public import Idealize.ShloMosaic.Lib.Pipeline.KitQuiescent
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal Cert.KernelIdeal.Gen Cert.Proof

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running buffers before point `n`: inside a row block, what its earlier blocks left. -/
def running (c : Dev nD) (n : ℕ) : sProp 𝕄 :=
  iprop(∃ (rv : FVec F S16x32768 .f32) (ri : IVec S16x32768 32),
    ⌜n % 31 ≠ 0 → rv = bestOf (logits m c) (baseCtr m c) (n / 31) (n % 31) ∧ ri = atOf (logits m c) (baseCtr m c) (n / 31) (n % 31)⌝
    ∗ owns (c : Thread nD τ) (Memref.whole cc0_scratch0) fullShare rv ∗ owns (c : Thread nD τ) (Memref.whole cc0_scratch1) fullShare ri
    ∗ ∃ r, prngReg c r)

/-- The pipeline's proof data on device `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => won (logits m c) (baseCtr m c) (t.val / 31)
  Φ n := running m c n.val
  q _ := fullShare
  owed _ := 0

theorem before_0 (c : Dev nD) (t : Fin cfg0.N) (d) : (dats m 0 c).before (0 : Fin 3) t d = baseCtr m c :=
  (before0_0_of m (dats m 0 c) rfl (fun _ => rfl) t d).trans (iblk0_eq m c t)

theorem before_1 (c : Dev nD) (t : Fin cfg0.N) (d) :
    (dats m 0 c).before (1 : Fin 3) t d = win0_1.fill (grid0.coords t) d (iblk m c 1 t) := by
  unfold Dat.before; rw [if_pos (fetch0_1 t)]; rfl

/-- The body at point `t`, as its text reads. -/
theorem body_work (t : Fin cfg0.N) : defs₀ (F := F) .tc cfg0.body (cfg0.bodyArgs t (cfg0.slots t))
    = work (win0_0.stage (cfg0.slots t 0)) (win0_1.stage (cfg0.slots t 1)) (win0_2.stage (cfg0.slots t 2))
        (Memref.whole cc0_scratch0) (Memref.whole cc0_scratch1) (grid0.coords t) :=
  body_eq _ _ _ _ _ (grid0.coords t) (Facts₀.hstage0_0 ((cfg0.slots t 0).cast Facts₀.nbuf0_0)) (Facts₀.hstage0_1 ((cfg0.slots t 1).cast Facts₀.nbuf0_1))
    (Facts₀.hstage0_2 ((cfg0.slots t 2).cast Facts₀.nbuf0_2)) (Memref.isWhole_whole _) (Memref.isWhole_whole _)

/-- The result's window is idle but at the last block of a row block. -/
theorem idle_eq : ∀ t : Fin grid0.N, idle0 2 (grid0.coords t) = !decide (t.val % 31 = 30) := by decide +kernel

theorem body_obligation (c : Dev nD) : BodyObligationLoose (dats m 0 c) (defs₀ (F := F)) 𝒱₀ () Set.univ := fun t => by
  have ht : t.val < 62 := t.isLt
  obtain ⟨hc0, hc1⟩ := coords_eq t
  rw [bigSep_W0, bigSep_W0, body_work]
  simp only
  rw [show (dats m 0 c).owesAt () t.succ = (dats m 0 c).owesAt () t.castSucc from rfl,
    show (dats m 0 c).Φ t.succ = running m c (t.val + 1) from rfl, show (dats m 0 c).Φ t.castSucc = running m c t.val from rfl]
  unfold running
  iintro ⟨⟨%rv, %ri, %hrun, H5, H6, Hr⟩, Ho, ⟨%d0, H0⟩, ⟨%d1, H1⟩, ⟨%d2, H2⟩⟩
  rw [before_0 m c t d0, before_1 m c t d1]
  have hk : t.val % 31 < 31 := Nat.mod_lt _ (by omega)
  have hb := bestAfter_congr hk (BitVec.ofNat 32 (t.val / 31)) (BitVec.ofNat 32 (t.val % 31)) (baseCtr m c)
    (x := win0_1.fill (grid0.coords t) d1 (iblk m c 1 t)) (x' := xblk (logits m c) (t.val / 31) (t.val % 31))
    (fun y hy => fill_eq m c t d1 y hy) (fun h => (hrun h).1)
  have ha := atAfter_congr hk (BitVec.ofNat 32 (t.val / 31)) (BitVec.ofNat 32 (t.val % 31)) (baseCtr m c)
    (x := win0_1.fill (grid0.coords t) d1 (iblk m c 1 t)) (x' := xblk (logits m c) (t.val / 31) (t.val % 31))
    (fun y hy => fill_eq m c t d1 y hy) (fun h => (hrun h).1) (fun h => (hrun h).2)
  iapply (work_run (win0_0.stage (cfg0.slots t 0)) (win0_1.stage (cfg0.slots t 1)) (win0_2.stage (cfg0.slots t 2))
        (Memref.whole cc0_scratch0) (Memref.whole cc0_scratch1) c (baseCtr m c)
        (win0_1.fill (grid0.coords t) d1 (iblk m c 1 t)) rv ri ((dats m 0 c).before (2 : Fin 3) t d2) (grid0.coords t) _)
  isplitl [H0 H1 H2 H5 H6]
  · isplitl [H0]; · iexact H0
    isplitl [H1]; · iexact H1
    isplitl [H2]; · iexact H2
    isplitl [H5]; · iexact H5
    iexact H6
  rw [hc0, hc1, hb, ha]
  iintro ⟨H0, H1, H2, H5, H6⟩
  isplitl [H5 H6 Hr]
  · iexists bestOf (logits m c) (baseCtr m c) (t.val / 31) (t.val % 31 + 1)
    iexists atOf (logits m c) (baseCtr m c) (t.val / 31) (t.val % 31 + 1)
    isplitr
    · ipureintro
      intro hne
      rw [show (t.val + 1) / 31 = t.val / 31 by omega, show (t.val + 1) % 31 = t.val % 31 + 1 by omega]
      exact ⟨rfl, rfl⟩
    isplitl [H5]; · iexact H5
    isplitl [H6]; · iexact H6
    iexact Hr
  isplitl [Ho]; · iexact Ho
  isplitl [H0]
  · rw [show (dats m 0 c).after 0 t = baseCtr m c from iblk0_eq m c t]; iexact H0
  isplitl [H1]
  · iexists d1
    have hcut : (win0 1).cut (grid0.coords t) ((dats m 0 c).after 1 t) = iblk m c 1 t := win0_1.cut_fill _ _ _
    rw [hcut]; iexact H1
  · rw [idle_eq t]
    by_cases h30 : t.val % 31 = 30
    · rw [show (!decide (t.val % 31 = 30)) = false by rw [decide_eq_true h30]; rfl, if_pos h30]
      rw [show (dats m 0 c).after 2 t = won (logits m c) (baseCtr m c) (t.val / 31) from rfl]
      unfold won
      rw [h30]
      simp only
      iexact H2
    · have hf : (win0 2).flush t = false := by
        have := flush0_2 t
        exact Bool.eq_false_iff.mpr fun h => h30 (this.mp h)
      rw [show (!decide (t.val % 31 = 30)) = true by rw [decide_eq_false h30]; rfl, if_neg h30, hf]
      simp only
      iexists d2
      iexact H2

theorem entry (c : Dev nD) : Pipeline.ΦA (Val := Elt F) (U := UR sig nD τ) cfg0.spec c ⊢ (dats m 0 c).Φ 0 := by
  rw [show (dats m 0 c).Φ 0 = running m c 0 from rfl]
  unfold Pipeline.ΦA running
  rw [scopedRest0_eq]
  iintro ⟨⟨⟨%f, H5⟩, ⟨%g, H6⟩⟩, Hr⟩
  iexists f
  iexists g
  isplitr
  · ipureintro; intro h; exact absurd rfl h
  rw [owns_whole, owns_whole]
  isplitl [H5]; · iexact H5
  isplitl [H6]; · iexact H6
  iexact Hr

theorem leave (c : Dev nD) : (dats m 0 c).Φ (Fin.last cfg0.N) ⊢ Pipeline.ΦA (Val := Elt F) (U := UR sig nD τ) cfg0.spec c := by
  rw [show (dats m 0 c).Φ (Fin.last cfg0.N) = running m c 62 from rfl]
  unfold Pipeline.ΦA running
  rw [scopedRest0_eq]
  simp only [owns_whole]
  iintro ⟨%f, %g, -, H5, H6, Hr⟩
  isplitl [H5 H6]
  · isplitl [H5]
    · iexists f; iexact H5
    · iexists g; iexact H6
  iexact Hr

-- the run theorem's implicit arguments are found by unifying its conclusion with this one
set_option backward.isDefEq.respectTransparency.types false in
/-- Every run of the kernel's program ends, with its arrays at what the points wrote and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ 𝒱₀ m ρ main
    (hbody := body_obligation m)
    (hshare := fun c => (dats m 0 c).share_full fun _ => rfl) (howed := fun _ _ => rfl)
    (V := V m) (hmain := hmain m 𝒱₀) (hA := fun _ _ => rfl)
    (hin := entry m) (hout := leave m)
    (Q' := _) (hQ' := fun _ h => h)

end Cert.KernelIdeal.Hand

end
-- ==== Proof.IdealFrame.lean ====
/- The frame of the kernel's program at any float values: it runs, leaves its argument as it was and every semaphore
   at zero. -/
module

public import proofs.«01_k».proof.Proof.IdealRun

@[expose] public section

noncomputable section

namespace Cert.KernelIdeal.Hand

open Idealize.ShloMosaic Idealize.ShloMosaic.TcCoe Idealize.SL.Sem
open Cert.KernelIdeal Cert.KernelIdeal.Gen

/-- The program runs, its argument ends unchanged and every semaphore at zero. -/
def FrameAt (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)) ∧ r.2.sem = fun _ => 0)

theorem frame_at (F : FTy → Type) [FloatOps F] : FrameAt F := fun m g =>
  (θ_run defs _ _).mono (fun _ h => ⟨fun c => ((h.1 c).1 1).trans
    (((dats m 0 c).arrAt_in 1 rfl _).trans (V_main_arg0 m c)), h.2⟩) (run_main m g)

end Cert.KernelIdeal.Hand

end
-- ==== Proof.KernelFrame.lean ====
/- The frame of the program as printed: it is the ideal program's at the machine's float values, the two texts being
   one text. -/
module

public import proofs.«01_k».proof.Proof.IdealFrame
public import proofs.«01_k».proof.Proof.Gen.Kernel
public import proofs.«01_k».proof.Defs

@[expose] public section

noncomputable section

namespace Cert.Proof

open Idealize.ShloMosaic Idealize.SL.Sem

/-- The printed program's frame at the machine's values. -/
def PrintedFrame : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

theorem printed_eq : PrintedFrame = Cert.KernelIdeal.Hand.FrameAt Bits := by chain_rfl

end Cert.Proof

end
-- ==== Proof.RefOps.lean ====
/- The reference's program as one line of operations: the counters, five times four rounds of the cipher, the words'
   noise and the argmax. -/
module

public import proofs.«01_k».proof.Proof.Gen.ReferenceIdeal
public import Idealize.ShloMosaic.Lib.Pipeline
public import Idealize.ShloMosaic.Lib.Pipeline.Regions
public import Idealize.ShloMosaic.Lib.StableHlo.Run

@[expose] public section

noncomputable section

namespace Cert.ReferenceIdeal.Hand

open Idealize.ShloMosaic Idealize.ShloMosaic.StableHlo Idealize.SL.Sem
open Cert.ReferenceIdeal Cert.ReferenceIdeal.Gen

variable {F : FTy → Type} [FloatOps F]

/-- A whole array of words, a whole array of numbers, and a single value of each kind. -/
abbrev Words := TRef sig ⟨S32x1000000, .i32⟩
abbrev Reals := TRef sig ⟨S32x1000000, .f32⟩
abbrev OneWord := TRef sig ⟨S_, .i32⟩
abbrev OneReal := TRef sig ⟨S_, .f32⟩

/-- One word, or one number, in every entry. -/
def fill (n : BitVec 32) : IVec S32x1000000 32 :=
  broadcastInDim S32x1000000 ![] bcast_S_S32x1000000 (constantI S_ 32 n)
def fillReal (n : BitVec 32) : FVec F S32x1000000 .f32 :=
  broadcastInDim S32x1000000 ![] bcast_S_S32x1000000 (constant S_ .f32 n)

/-- The two operations that put one word, or one number, in every entry. -/
def filling (k : OneWord) (w : Words) (n : BitVec 32) : List (HloOp τ sig (Elt F)) :=
  [TRef.nullary k (constantI S_ 32 n), TRef.unary k w (broadcastInDim S32x1000000 ![] bcast_S_S32x1000000)]
def fillingReal (k : OneReal) (w : Reals) (n : BitVec 32) : List (HloOp τ sig (Elt F)) :=
  [TRef.nullary k (constant S_ .f32 n), TRef.unary k w (broadcastInDim S32x1000000 ![] bcast_S_S32x1000000)]

/-- One round: the first word takes the second, the second is turned left by `d` (right by `e`) and takes the first. -/
def round (x0 x1 s : Words) (k : OneWord) (w l : Words) (k' : OneWord) (w' r o y : Words) (d e : BitVec 32) :
    List (HloOp τ sig (Elt F)) :=
  TRef.binary x0 x1 s addi :: (filling k w d ++ TRef.binary x1 w l Host.shli :: (filling k' w' e ++
    [TRef.binary x1 w' r Host.shrui, TRef.binary l r o ori, TRef.binary o s y xori]))

/-- The key's words added in after four rounds. -/
def inject (x0 x1 : Words) (k : OneWord) (w s : Words) (k' : OneWord) (w' y : Words) (a b : BitVec 32) :
    List (HloOp τ sig (Elt F)) :=
  filling k w a ++ TRef.binary x0 w s addi :: (filling k' w' b ++ [TRef.binary x1 w' y addi])

/-- The counters and the first addition of the key. -/
def start : List (HloOp τ sig (Elt F)) :=
  TRef.nullary (.of main_v0) (iotaInDim S32x1000000 32 0) :: (filling (.of main_c) (.of main_v1) 1000000#32 ++
    TRef.binary (.of main_v0) (.of main_v1) (.of main_v2) muli ::
    TRef.nullary (.of main_v3) (iotaInDim S32x1000000 32 1) ::
    TRef.binary (.of main_v2) (.of main_v3) (.of main_v4) addi ::
    (filling (.of main_c_0) (.of main_v5) 0#32 ++ (filling (.of main_c_1) (.of main_v6) 0#32 ++
    TRef.binary (.of main_v5) (.of main_v6) (.of main_v7) addi ::
    (filling (.of main_c_2) (.of main_v8) 42#32 ++ [TRef.binary (.of main_v4) (.of main_v8) (.of main_v9) addi]))))

/-- The first four rounds, then their key. -/
def group0 : List (HloOp τ sig (Elt F)) :=
  round (.of main_v7) (.of main_v9) (.of main_v10) (.of main_c_3) (.of main_v11) (.of main_v12) (.of main_c_4) (.of main_v13) (.of main_v14) (.of main_v15) (.of main_v16) 13#32 19#32
    ++ round (.of main_v10) (.of main_v16) (.of main_v17) (.of main_c_5) (.of main_v18) (.of main_v19) (.of main_c_6) (.of main_v20) (.of main_v21) (.of main_v22) (.of main_v23) 15#32 17#32
    ++ round (.of main_v17) (.of main_v23) (.of main_v24) (.of main_c_7) (.of main_v25) (.of main_v26) (.of main_c_8) (.of main_v27) (.of main_v28) (.of main_v29) (.of main_v30) 26#32 6#32
    ++ round (.of main_v24) (.of main_v30) (.of main_v31) (.of main_c_9) (.of main_v32) (.of main_v33) (.of main_c_10) (.of main_v34) (.of main_v35) (.of main_v36) (.of main_v37) 6#32 26#32
    ++ inject (.of main_v31) (.of main_v37) (.of main_c_11) (.of main_v38) (.of main_v39) (.of main_c_12) (.of main_v40) (.of main_v41) 42#32 466689009#32

/-- The second four rounds, then their key. -/
def group1 : List (HloOp τ sig (Elt F)) :=
  round (.of main_v39) (.of main_v41) (.of main_v42) (.of main_c_13) (.of main_v43) (.of main_v44) (.of main_c_14) (.of main_v45) (.of main_v46) (.of main_v47) (.of main_v48) 17#32 15#32
    ++ round (.of main_v42) (.of main_v48) (.of main_v49) (.of main_c_15) (.of main_v50) (.of main_v51) (.of main_c_16) (.of main_v52) (.of main_v53) (.of main_v54) (.of main_v55) 29#32 3#32
    ++ round (.of main_v49) (.of main_v55) (.of main_v56) (.of main_c_17) (.of main_v57) (.of main_v58) (.of main_c_18) (.of main_v59) (.of main_v60) (.of main_v61) (.of main_v62) 16#32 16#32
    ++ round (.of main_v56) (.of main_v62) (.of main_v63) (.of main_c_19) (.of main_v64) (.of main_v65) (.of main_c_20) (.of main_v66) (.of main_v67) (.of main_v68) (.of main_v69) 24#32 8#32
    ++ inject (.of main_v63) (.of main_v69) (.of main_c_21) (.of main_v70) (.of main_v71) (.of main_c_22) (.of main_v72) (.of main_v73) 466689008#32 2#32

/-- The third four rounds, then their key. -/
def group2 : List (HloOp τ sig (Elt F)) :=
  round (.of main_v71) (.of main_v73) (.of main_v74) (.of main_c_23) (.of main_v75) (.of main_v76) (.of main_c_24) (.of main_v77) (.of main_v78) (.of main_v79) (.of main_v80) 13#32 19#32
    ++ round (.of main_v74) (.of main_v80) (.of main_v81) (.of main_c_25) (.of main_v82) (.of main_v83) (.of main_c_26) (.of main_v84) (.of main_v85) (.of main_v86) (.of main_v87) 15#32 17#32
    ++ round (.of main_v81) (.of main_v87) (.of main_v88) (.of main_c_27) (.of main_v89) (.of main_v90) (.of main_c_28) (.of main_v91) (.of main_v92) (.of main_v93) (.of main_v94) 26#32 6#32
    ++ round (.of main_v88) (.of main_v94) (.of main_v95) (.of main_c_29) (.of main_v96) (.of main_v97) (.of main_c_30) (.of main_v98) (.of main_v99) (.of main_v100) (.of main_v101) 6#32 26#32
    ++ inject (.of main_v95) (.of main_v101) (.of main_c_31) (.of main_v102) (.of main_v103) (.of main_c_32) (.of main_v104) (.of main_v105) 0#32 45#32

/-- The fourth four rounds, then their key. -/
def group3 : List (HloOp τ sig (Elt F)) :=
  round (.of main_v103) (.of main_v105) (.of main_v106) (.of main_c_33) (.of main_v107) (.of main_v108) (.of main_c_34) (.of main_v109) (.of main_v110) (.of main_v111) (.of main_v112) 17#32 15#32
    ++ round (.of main_v106) (.of main_v112) (.of main_v113) (.of main_c_35) (.of main_v114) (.of main_v115) (.of main_c_36) (.of main_v116) (.of main_v117) (.of main_v118) (.of main_v119) 29#32 3#32
    ++ round (.of main_v113) (.of main_v119) (.of main_v120) (.of main_c_37) (.of main_v121) (.of main_v122) (.of main_c_38) (.of main_v123) (.of main_v124) (.of main_v125) (.of main_v126) 16#32 16#32
    ++ round (.of main_v120) (.of main_v126) (.of main_v127) (.of main_c_39) (.of main_v128) (.of main_v129) (.of main_c_40) (.of main_v130) (.of main_v131) (.of main_v132) (.of main_v133) 24#32 8#32
    ++ inject (.of main_v127) (.of main_v133) (.of main_c_41) (.of main_v134) (.of main_v135) (.of main_c_42) (.of main_v136) (.of main_v137) 42#32 466689012#32

/-- The fifth four rounds, then their key. -/
def group4 : List (HloOp τ sig (Elt F)) :=
  round (.of main_v135) (.of main_v137) (.of main_v138) (.of main_c_43) (.of main_v139) (.of main_v140) (.of main_c_44) (.of main_v141) (.of main_v142) (.of main_v143) (.of main_v144) 13#32 19#32
    ++ round (.of main_v138) (.of main_v144) (.of main_v145) (.of main_c_45) (.of main_v146) (.of main_v147) (.of main_c_46) (.of main_v148) (.of main_v149) (.of main_v150) (.of main_v151) 15#32 17#32
    ++ round (.of main_v145) (.of main_v151) (.of main_v152) (.of main_c_47) (.of main_v153) (.of main_v154) (.of main_c_48) (.of main_v155) (.of main_v156) (.of main_v157) (.of main_v158) 26#32 6#32
    ++ round (.of main_v152) (.of main_v158) (.of main_v159) (.of main_c_49) (.of main_v160) (.of main_v161) (.of main_c_50) (.of main_v162) (.of main_v163) (.of main_v164) (.of main_v165) 6#32 26#32
    ++ inject (.of main_v159) (.of main_v165) (.of main_c_51) (.of main_v166) (.of main_v167) (.of main_c_52) (.of main_v168) (.of main_v169) 466689008#32 5#32

/-- The words' noise added to the logits. -/
def finish : List (HloOp τ sig (Elt F)) :=
  TRef.binary (.of main_v167) (.of main_v169) (.of main_v170) xori :: (filling (.of main_c_53) (.of main_v171) 9#32 ++
    TRef.binary (.of main_v170) (.of main_v171) (.of main_v172) Host.shrui ::
    (filling (.of main_c_54) (.of main_v173) 1065353216#32 ++
    TRef.binary (.of main_v172) (.of main_v173) (.of main_v174) ori ::
    TRef.unary (.of main_v174) (.of main_v175 : Reals) (bitcastToFloat .f32) ::
    (fillingReal (.of main_cst) (.of main_v176) 0x3F800000#32 ++
    TRef.binary (.of main_v175 : Reals) (.of main_v176 : Reals) (.of main_v177 : Reals) subf ::
    (fillingReal (.of main_cst_55) (.of main_v178) 0x3F800000#32 ++
    TRef.binary (.of main_v177 : Reals) (.of main_v178 : Reals) (.of main_v179 : Reals) mulf ::
    (fillingReal (.of main_cst_56) (.of main_v180) 0x00800000#32 ++
    TRef.binary (.of main_v179 : Reals) (.of main_v180 : Reals) (.of main_v181 : Reals) addf ::
    (fillingReal (.of main_cst_57) (.of main_v182) 0x00800000#32 ++
    [TRef.binary (.of main_v182 : Reals) (.of main_v181 : Reals) (.of main_v183 : Reals) maximumf,
     TRef.unary (.of main_v183 : Reals) (.of main_v184 : Reals) Host.log,
     TRef.unary (.of main_v184 : Reals) (.of main_v185 : Reals) Host.negf,
     TRef.unary (.of main_v185 : Reals) (.of main_v186 : Reals) Host.log,
     TRef.unary (.of main_v186 : Reals) (.of main_v187 : Reals) Host.negf,
     TRef.binary (.of main_v187 : Reals) (.of main_arg0 : Reals) (.of main_v188 : Reals) addf]))))))

/-- Each row's argmax, as a column. -/
def choose : List (HloOp τ sig (Elt F)) :=
  [TRef.nullary (.of main_call0_v0 : Words) (iotaInDim S32x1000000 32 1),
   TRef.nullary (.of main_call0_cst : OneReal) (constant S_ .f32 0xFF800000#32),
   TRef.nullary (.of main_call0_c : OneWord) (constantI S_ 32 0#32),
   TRef.quaternary (.of main_v188 : Reals) (.of main_call0_v0 : Words) (.of main_call0_cst : OneReal)
     (.of main_call0_c : OneWord) (.of main_call0_v1_0 : TRef sig ⟨S32, .f32⟩)
     (fun x y u v j => (Host.argReduce reducer_argmax_f32_i32 x y u v reducesTo_S32x1000000_S32_d1 h_S_ j).1),
   TRef.quaternary (.of main_v188 : Reals) (.of main_call0_v0 : Words) (.of main_call0_cst : OneReal)
     (.of main_call0_c : OneWord) (.of main_v189 : TRef sig ⟨S32, .i32⟩)
     (fun x y u v j => (Host.argReduce reducer_argmax_f32_i32 x y u v reducesTo_S32x1000000_S32_d1 h_S_ j).2),
   TRef.unary (.of main_v189 : TRef sig ⟨S32, .i32⟩) (.of main_v190 : TRef sig ⟨S32x1, .i32⟩)
     (broadcastInDim S32x1 ![0] bcast_S32_S32x1_0)]

/-- The whole program's operations. -/
def ops : List (HloOp τ sig (Elt F)) :=
  start ++ (group0 ++ (group1 ++ (group2 ++ (group3 ++ (group4 ++ (finish ++ choose))))))

/-- The program's parts are the line's stretches of sixty. -/
theorem part0_eq (c : Dev nD) : main_part0 (F := F) c = seq (ops.take 60) := by chain_rfl
theorem part1_eq (c : Dev nD) : main_part1 (F := F) c = seq ((ops.drop 60).take 60) := by chain_rfl
theorem part2_eq (c : Dev nD) : main_part2 (F := F) c = seq ((ops.drop 120).take 60) := by chain_rfl
theorem part3_eq (c : Dev nD) : main_part3 (F := F) c = seq ((ops.drop 180).take 60) := by chain_rfl
theorem part4_eq (c : Dev nD) : main_part4 (F := F) c = seq (ops.drop 240) := by chain_rfl

/-- A line cut in five is the line. -/
theorem cut_eq {α : Type _} (l : List α) : l = l.take 60 ++ ((l.drop 60).take 60 ++ ((l.drop 120).take 60
    ++ ((l.drop 180).take 60 ++ l.drop 240))) := by
  have h (n : ℕ) : l.drop (n + 60) = (l.drop n).drop 60 := by rw [List.drop_drop]
  rw [show l.drop 240 = (l.drop 180).drop 60 from h 180, List.take_append_drop, show l.drop 180 = (l.drop 120).drop 60 from h 120,
    List.take_append_drop, show l.drop 120 = (l.drop 60).drop 60 from h 60, List.take_append_drop, List.take_append_drop]

/-- The program is the line. -/
theorem main_eq (c : Dev nD) : main (F := F) c = seq ops := by
  rw [cut_eq (ops (F := F)), seq_append, seq_append, seq_append, seq_append, ← part0_eq c, ← part1_eq c, ← part2_eq c, ← part3_eq c,
    ← part4_eq c]
  rfl

end Cert.ReferenceIdeal.Hand

end
-- ==== Proof.RefRun.lean ====
/- The run of the reference: what its line of operations leaves in its result, from any contents, and that it leaves
   its argument. -/
module

public import proofs.«01_k».proof.Proof.RefOps
public import proofs.«01_k».proof.Proof.Noise

@[expose] public section

noncomputable section

namespace Cert.ReferenceIdeal.Hand

open Idealize.ShloMosaic Idealize.ShloMosaic.StableHlo Idealize.SL.Sem
open Cert.ReferenceIdeal Cert.ReferenceIdeal.Gen Cert.Proof

variable {F : FTy → Type} [FloatOps F]

section Read
variable {T Ta Tb Tc Te Ty : BufTy}

/-- What a value's buffer holds. -/
def val (V : Valuation τ sig (Elt F)) (x : TRef sig T) : T.Contents (Elt F) := x.ofBuf (V (Proc.devRef .tc x.ref))

theorem val_nullary (V : Valuation τ sig (Elt F)) (y : TRef sig Ty) (v : Ty.Contents (Elt F)) :
    val ((TRef.nullary y v).result V) y = v := by
  unfold val; rw [nullary_result, TRef.ofBuf_toBuf]

theorem val_unary (V : Valuation τ sig (Elt F)) (x : TRef sig T) (y : TRef sig Ty)
    (f : T.Contents (Elt F) → Ty.Contents (Elt F)) : val ((TRef.unary x y f).result V) y = f (val V x) := by
  unfold val; rw [unary_result, TRef.ofBuf_toBuf]

theorem val_binary (V : Valuation τ sig (Elt F)) (a : TRef sig Ta) (b : TRef sig Tb) (y : TRef sig Ty)
    (f : Ta.Contents (Elt F) → Tb.Contents (Elt F) → Ty.Contents (Elt F)) :
    val ((TRef.binary a b y f).result V) y = f (val V a) (val V b) := by
  unfold val; rw [binary_result, TRef.ofBuf_toBuf]

theorem val_quaternary (V : Valuation τ sig (Elt F)) (a : TRef sig Ta) (b : TRef sig Tb) (c : TRef sig Tc) (e : TRef sig Te)
    (y : TRef sig Ty)
    (f : Ta.Contents (Elt F) → Tb.Contents (Elt F) → Tc.Contents (Elt F) → Te.Contents (Elt F) → Ty.Contents (Elt F)) :
    val ((TRef.quaternary a b c e y f).result V) y = f (val V a) (val V b) (val V c) (val V e) := by
  unfold val; rw [quaternary_result, TRef.ofBuf_toBuf]

/-- An operation leaves the values of other buffers. -/
theorem val_other (op : HloOp τ sig (Elt F)) (V : Valuation τ sig (Elt F)) (y : Ref sig .tc) (x : TRef sig T)
    (hw : op.writes = {Proc.devRef (τ := τ) .tc y}) (h : x.ref ≠ y) : val (op.result V) x = val V x := by
  unfold val; rw [result_of_writes_ne op V y x.ref hw h]

theorem val_nullary_ne (V : Valuation τ sig (Elt F)) (x : TRef sig T) (y : TRef sig Ty) (v : Ty.Contents (Elt F))
    (h : x.ref ≠ y.ref) : val ((TRef.nullary y v).result V) x = val V x := val_other _ V y.ref x rfl h

theorem val_unary_ne (V : Valuation τ sig (Elt F)) (x : TRef sig T) (a : TRef sig Ta) (y : TRef sig Ty)
    (f : Ta.Contents (Elt F) → Ty.Contents (Elt F)) (h : x.ref ≠ y.ref) :
    val ((TRef.unary a y f).result V) x = val V x := val_other _ V y.ref x rfl h

theorem val_binary_ne (V : Valuation τ sig (Elt F)) (x : TRef sig T) (a : TRef sig Ta) (b : TRef sig Tb) (y : TRef sig Ty)
    (f : Ta.Contents (Elt F) → Tb.Contents (Elt F) → Ty.Contents (Elt F)) (h : x.ref ≠ y.ref) :
    val ((TRef.binary a b y f).result V) x = val V x := val_other _ V y.ref x rfl h

theorem val_quaternary_ne (V : Valuation τ sig (Elt F)) (x : TRef sig T) (a : TRef sig Ta) (b : TRef sig Tb) (c : TRef sig Tc)
    (e : TRef sig Te) (y : TRef sig Ty)
    (f : Ta.Contents (Elt F) → Tb.Contents (Elt F) → Tc.Contents (Elt F) → Te.Contents (Elt F) → Ty.Contents (Elt F))
    (h : x.ref ≠ y.ref) :
    val ((TRef.quaternary a b c e y f).result V) x = val V x := val_other _ V y.ref x rfl h

end Read

theorem after_append (l l' : List (HloOp τ sig (Elt F))) (V : Valuation τ sig (Elt F)) :
    after (l ++ l') V = after l' (after l V) := by
  induction l generalizing V with
  | nil => rfl
  | cons o l ih => exact ih _

/-- The argument's buffer. -/
abbrev argument : Reals := .of main_arg0

/-- The two words of the cipher, at two buffers, and the logits still in theirs. -/
def Holds (V : Valuation τ sig (Elt F)) (x0 x1 : Words) (p : IVec S32x1000000 32 × IVec S32x1000000 32)
    (L : FVec F S32x1000000 .f32) : Prop :=
  val V x0 = p.1 ∧ val V x1 = p.2 ∧ val V argument = L

/-- One round on the pair of words. -/
def turned (d e : BitVec 32) (p : IVec S32x1000000 32 × IVec S32x1000000 32) : IVec S32x1000000 32 × IVec S32x1000000 32 :=
  (addi p.1 p.2, xori (turn d e p.2) (addi p.1 p.2))

/-- The key's addition on the pair of words. -/
def keyed (a b : BitVec 32) (p : IVec S32x1000000 32 × IVec S32x1000000 32) : IVec S32x1000000 32 × IVec S32x1000000 32 :=
  (addi p.1 (broadcast _ a), addi p.2 (broadcast _ b))

theorem shli_fill {d : BitVec 32} (h : d.toNat < 32) (x : IVec S32x1000000 32) : Host.shli x (fill d) = shli x (broadcast _ d) := by
  funext i
  show IntOp.shli .host (x i) d = IntOp.shli .vector (x i) d
  simp only [IntOp.shli, h, if_true]

theorem shrui_fill {d : BitVec 32} (h : d.toNat < 32) (x : IVec S32x1000000 32) :
    Host.shrui x (fill d) = shrui x (broadcast _ d) := by
  funext i
  show IntOp.shrui .host (x i) d = IntOp.shrui .vector (x i) d
  simp only [IntOp.shrui, h, if_true]

/-- A round's operations run a round. -/
theorem round_holds {V : Valuation τ sig (Elt F)} {x0 x1 s : Words} {k : OneWord} {w l : Words} {k' : OneWord}
    {w' r o y : Words} {d e : BitVec 32} {p} {L : FVec F S32x1000000 .f32} (H : Holds V x0 x1 p L)
    (hd : [main_arg0, x0.ref, x1.ref, s.ref, k.ref, w.ref, l.ref, k'.ref, w'.ref, r.ref, o.ref, y.ref].Nodup := by decide)
    (h1 : d.toNat < 32 := by decide) (h2 : e.toNat < 32 := by decide) :
    Holds (after (round x0 x1 s k w l k' w' r o y d e) V) s y (turned d e p) L := by
  obtain ⟨h0, hx, hL⟩ := H
  simp only [List.nodup_cons, List.mem_cons, List.not_mem_nil, or_false, not_or, not_false_eq_true, List.nodup_nil,
    and_true] at hd
  have hs : val (after (round x0 x1 s k w l k' w' r o y d e) V) s = addi p.1 p.2 := by
    simp [round, filling, after_nil, val_binary, val_binary_ne, val_unary_ne, val_nullary_ne, hd, h0, hx]
  have ha : val (after (round x0 x1 s k w l k' w' r o y d e) V) argument = L := by
    simp [round, filling, after_nil, val_binary_ne, val_unary_ne, val_nullary_ne, hd, hL]
  have hy : val (after (round x0 x1 s k w l k' w' r o y d e) V) y
      = xori (ori (Host.shli p.2 (fill d)) (Host.shrui p.2 (fill e))) (addi p.1 p.2) := by
    simp [round, filling, after_nil, val_binary, val_unary, val_nullary, val_binary_ne, val_unary_ne, val_nullary_ne, hd, h0, hx]
    rfl
  rw [shli_fill h1, shrui_fill h2] at hy
  exact ⟨hs, hy, ha⟩

/-- A key addition's operations add the key. -/
theorem inject_holds {V : Valuation τ sig (Elt F)} {x0 x1 : Words} {k : OneWord} {w s : Words} {k' : OneWord}
    {w' y : Words} {a b : BitVec 32} {p} {L : FVec F S32x1000000 .f32} (H : Holds V x0 x1 p L)
    (hd : [main_arg0, x0.ref, x1.ref, k.ref, w.ref, s.ref, k'.ref, w'.ref, y.ref].Nodup := by decide) :
    Holds (after (inject x0 x1 k w s k' w' y a b) V) s y (keyed a b p) L := by
  obtain ⟨h0, hx, hL⟩ := H
  simp only [List.nodup_cons, List.mem_cons, List.not_mem_nil, or_false, not_or, not_false_eq_true, List.nodup_nil,
    and_true] at hd
  refine ⟨?_, ?_, ?_⟩
  · simp [inject, filling, after_nil, val_binary, val_unary, val_nullary, val_binary_ne, val_unary_ne, val_nullary_ne, hd, h0]
    rfl
  · simp [inject, filling, after_nil, val_binary, val_unary, val_nullary, val_binary_ne, val_unary_ne, val_nullary_ne, hd, hx]
    rfl
  · simp [inject, filling, after_nil, val_binary_ne, val_unary_ne, val_nullary_ne, hd, hL]

/-- The cipher's five groups of four rounds. -/
def groupA (a b : BitVec 32) (p : IVec S32x1000000 32 × IVec S32x1000000 32) :=
  keyed a b (turned 6#32 26#32 (turned 26#32 6#32 (turned 15#32 17#32 (turned 13#32 19#32 p))))
def groupB (a b : BitVec 32) (p : IVec S32x1000000 32 × IVec S32x1000000 32) :=
  keyed a b (turned 24#32 8#32 (turned 16#32 16#32 (turned 29#32 3#32 (turned 17#32 15#32 p))))

theorem group0_holds {V : Valuation τ sig (Elt F)} {p} {L : FVec F S32x1000000 .f32}
    (H : Holds V (.of main_v7) (.of main_v9) p L) :
    Holds (after group0 V) (.of main_v39) (.of main_v41) (groupA 42#32 466689009#32 p) L := by
  unfold group0 groupA
  simp only [after_append]
  exact inject_holds (round_holds (round_holds (round_holds (round_holds H))))

theorem group1_holds {V : Valuation τ sig (Elt F)} {p} {L : FVec F S32x1000000 .f32}
    (H : Holds V (.of main_v39) (.of main_v41) p L) :
    Holds (after group1 V) (.of main_v71) (.of main_v73) (groupB 466689008#32 2#32 p) L := by
  unfold group1 groupB
  simp only [after_append]
  exact inject_holds (round_holds (round_holds (round_holds (round_holds H))))

theorem group2_holds {V : Valuation τ sig (Elt F)} {p} {L : FVec F S32x1000000 .f32}
    (H : Holds V (.of main_v71) (.of main_v73) p L) :
    Holds (after group2 V) (.of main_v103) (.of main_v105) (groupA 0#32 45#32 p) L := by
  unfold group2 groupA
  simp only [after_append]
  exact inject_holds (round_holds (round_holds (round_holds (round_holds H))))

theorem group3_holds {V : Valuation τ sig (Elt F)} {p} {L : FVec F S32x1000000 .f32}
    (H : Holds V (.of main_v103) (.of main_v105) p L) :
    Holds (after group3 V) (.of main_v135) (.of main_v137) (groupB 42#32 466689012#32 p) L := by
  unfold group3 groupB
  simp only [after_append]
  exact inject_holds (round_holds (round_holds (round_holds (round_holds H))))

theorem group4_holds {V : Valuation τ sig (Elt F)} {p} {L : FVec F S32x1000000 .f32}
    (H : Holds V (.of main_v135) (.of main_v137) p L) :
    Holds (after group4 V) (.of main_v167) (.of main_v169) (groupA 466689008#32 5#32 p) L := by
  unfold group4 groupA
  simp only [after_append]
  exact inject_holds (round_holds (round_holds (round_holds (round_holds H))))

end Cert.ReferenceIdeal.Hand

end
-- ==== Proof.RefResult.lean ====
/- The reference's result as one term of its argument, and its frame. -/
module

public import proofs.«01_k».proof.Proof.RefRun

@[expose] public section

noncomputable section

namespace Cert.ReferenceIdeal.Hand

open Idealize.ShloMosaic Idealize.ShloMosaic.TcCoe Idealize.ShloMosaic.StableHlo Idealize.SL.Sem
open Cert.ReferenceIdeal Cert.ReferenceIdeal.Gen Cert.Proof

variable {F : FTy → Type} [FloatOps F]

/-- The counters with the key's second word added. -/
def counters : IVec S32x1000000 32 :=
  addi (addi (muli (iotaInDim S32x1000000 32 0) (fill 1000000#32)) (iotaInDim S32x1000000 32 1)) (fill 42#32)

theorem start_holds (V : Valuation τ sig (Elt F)) :
    Holds (after start V) (.of main_v7) (.of main_v9) (addi (fill 0#32) (fill 0#32), counters) (val V argument) := by
  refine ⟨?_, ?_, ?_⟩
  · simp (decide := true) [start, filling, after_nil, val_binary, val_unary, val_nullary, val_binary_ne, val_unary_ne,
      val_nullary_ne]
    rfl
  · simp (decide := true) [start, filling, after_nil, val_binary, val_unary, val_nullary, val_binary_ne, val_unary_ne,
      val_nullary_ne]
    rfl
  · simp (decide := true) [start, filling, after_nil, val_binary_ne, val_unary_ne, val_nullary_ne]

/-- The numbers that the cipher's words name, and their noise, in the reference's operations. -/
def unitOf (w : IVec S32x1000000 32) : FVec F S32x1000000 .f32 :=
  maximumf (fillReal 0x00800000#32)
    (addf (mulf (subf (bitcastToFloat .f32 (ori (Host.shrui w (fill 9#32)) (fill 1065353216#32)))
      (fillReal 0x3F800000#32)) (fillReal 0x3F800000#32)) (fillReal 0x00800000#32))
def scoresOf (w : IVec S32x1000000 32) (L : FVec F S32x1000000 .f32) : FVec F S32x1000000 .f32 :=
  addf (Host.negf (Host.log (Host.negf (Host.log (unitOf w))))) L

theorem finish_val {V : Valuation τ sig (Elt F)} {p} {L : FVec F S32x1000000 .f32}
    (H : Holds V (.of main_v167) (.of main_v169) p L) :
    val (after finish V) (.of main_v188 : Reals) = scoresOf (xori p.1 p.2) L ∧ val (after finish V) argument = L := by
  obtain ⟨h0, h1, hL⟩ := H
  refine ⟨?_, ?_⟩
  · simp (decide := true) [finish, filling, fillingReal, after_nil, val_binary, val_unary, val_nullary, val_binary_ne, val_unary_ne,
      val_nullary_ne, h0, h1, hL]
    rfl
  · simp (decide := true) [finish, filling, fillingReal, after_nil, val_binary_ne, val_unary_ne, val_nullary_ne, hL]

/-- Each row's argmax in the reference's operations, as a column. -/
def chosen (X : FVec F S32x1000000 .f32) : IVec S32x1 32 :=
  broadcastInDim S32x1 ![0] bcast_S32_S32x1_0 (fun j => (Host.argReduce reducer_argmax_f32_i32 X (iotaInDim S32x1000000 32 1)
    (constant S_ .f32 0xFF800000#32) (constantI S_ 32 0#32) reducesTo_S32x1000000_S32_d1 h_S_ j).2)

theorem choose_val (V : Valuation τ sig (Elt F)) :
    val (after choose V) (.of main_v190 : TRef sig ⟨S32x1, .i32⟩) = chosen (val V (.of main_v188 : Reals))
      ∧ val (after choose V) argument = val V argument := by
  refine ⟨?_, ?_⟩
  · simp (decide := true) [choose, after_nil, val_quaternary, val_unary, val_nullary, val_quaternary_ne, val_unary_ne,
      val_nullary_ne]
    rfl
  · simp (decide := true) [choose, after_nil, val_quaternary_ne, val_unary_ne, val_nullary_ne]

/-- The cipher's two words at every counter. -/
def cipher (p : IVec S32x1000000 32 × IVec S32x1000000 32) : IVec S32x1000000 32 × IVec S32x1000000 32 :=
  groupA 466689008#32 5#32 (groupB 42#32 466689012#32 (groupA 0#32 45#32 (groupB 466689008#32 2#32
    (groupA 42#32 466689009#32 p))))

/-- The reference's result. -/
def result (L : FVec F S32x1000000 .f32) : IVec S32x1 32 :=
  chosen (scoresOf (xori (cipher (addi (fill 0#32) (fill 0#32), counters)).1
    (cipher (addi (fill 0#32) (fill 0#32), counters)).2) L)

theorem ops_val (V : Valuation τ sig (Elt F)) :
    val (after ops V) (.of main_v190 : TRef sig ⟨S32x1, .i32⟩) = result (val V argument)
      ∧ val (after ops V) argument = val V argument := by
  have h := group4_holds (group3_holds (group2_holds (group1_holds (group0_holds (start_holds V)))))
  obtain ⟨h1, h2⟩ := finish_val h
  obtain ⟨h3, h4⟩ := choose_val (after finish (after group4 (after group3 (after group2 (after group1 (after group0
    (after start V)))))))
  rw [h1] at h3
  rw [h2] at h4
  unfold ops
  simp only [after_append]
  exact ⟨h3, h4⟩

theorem ops_sub : (ops (F := F)).Forall fun op => op.bufs ⊆ tcRefs τ sig := by
  simp [ops, start, group0, group1, group2, group3, group4, finish, choose, round, inject, filling, fillingReal]

set_option maxRecDepth 20000 in
theorem ops_fresh : (ops (F := F)).Forall fun op => op.fresh = ∅ :=
  forall_fresh_of_map rfl

set_option maxRecDepth 20000 in
/-- Nothing is scoped, and there is no semaphore. -/
theorem scopedRefs_eq : (Finset.univ.filter fun b : Ref sig .tc => b.isScoped) = ∅ := by decide +kernel
theorem scopedSems_eq : (Finset.univ.filter fun sm : SemLoc sig => sm.isScoped .tc) = ∅ := by decide +kernel

theorem result_read (V : Valuation τ sig (Elt F)) :
    after ops V (Proc.devRef .tc main_v190) = result (V (Proc.devRef .tc main_arg0)) := by
  have h := (ops_val V).1
  simpa only [val, cast_eq] using h

theorem argument_read (V : Valuation τ sig (Elt F)) :
    after ops V (Proc.devRef .tc main_arg0) = V (Proc.devRef .tc main_arg0) := by
  have h := (ops_val V).2
  simpa only [val, cast_eq] using h

/-- The reference runs; its result is `result` of its argument, which stays, and every semaphore ends at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v190) = result (m ((c.tc : Thread nD τ).loc main_arg0))
        ∧ r.2.mem ((c.tc : Thread nD τ).loc main_arg0) = m ((c.tc : Thread nD τ).loc main_arg0)) ∧ r.2.sem = fun _ => 0) :=
  (θ_run defs _ _).mono
    (fun r h => ⟨fun c => ⟨(h c main_v190).trans (result_read _), (h c main_arg0).trans (argument_read _)⟩,
      funext fun sm => by first | exact sm.elim0 | exact (nomatch sm) | skip⟩)
    (run_seq scopedRefs_eq scopedSems_eq defs main (fun _ => ops) (main_eq (F := F)) (fun _ => ops_sub) m g
      (fun _ => List.forall_iff_forall_mem.mp ops_fresh))

end Cert.ReferenceIdeal.Hand

end
-- ==== Proof.Winner.lean ====
/- The winner of a row of extended reals: the least column at which the row's maximum stands, what a running best
   and its counter come to, and what a fold over pairs of a value and a column picks. -/
module

public import Mathlib.Data.EReal.Basic
public import Mathlib.Data.Finset.Max

@[expose] public section

namespace Cert.Proof

/-- Column `j` of the row `s` of `n` entries holds the row's maximum, and no column before it does. -/
structure Wins (n : ℕ) (s : ℕ → EReal) (j : ℕ) : Prop where
  lt : j < n
  most : ∀ i < n, s i ≤ s j
  least : ∀ i < j, s i < s j

theorem exists_wins {n : ℕ} (hn : 0 < n) (s : ℕ → EReal) : ∃ j, Wins n s j := by
  classical
  obtain ⟨p, hp, hmax⟩ := Finset.exists_max_image (Finset.range n) s ⟨0, Finset.mem_range.2 hn⟩
  have hex : ∃ j, j < n ∧ ∀ i < n, s i ≤ s j :=
    ⟨p, Finset.mem_range.1 hp, fun i hi => hmax i (Finset.mem_range.2 hi)⟩
  refine ⟨Nat.find hex, (Nat.find_spec hex).1, (Nat.find_spec hex).2, fun i hi => ?_⟩
  have hin : i < n := hi.trans (Nat.find_spec hex).1
  refine lt_of_le_of_ne ((Nat.find_spec hex).2 i hin) fun e => Nat.find_min hex hi ⟨hin, fun i' hi' => ?_⟩
  rw [e]; exact (Nat.find_spec hex).2 i' hi'

/-- A column that holds as much as the winner is not before it. -/
theorem Wins.le_of_eq {n : ℕ} {s : ℕ → EReal} {j i : ℕ} (h : Wins n s j) (e : s i = s j) : j ≤ i :=
  not_lt.1 fun hi => (h.least i hi).ne e

/-- The running best of `s`, from minus infinity. -/
noncomputable def topOf (s : ℕ → EReal) : ℕ → EReal
  | 0 => ⊥
  | k + 1 => if topOf s k < s k then s k else topOf s k

/-- The counter kept with it, from `z`. -/
noncomputable def topAt {α : Type} (z : α) (c : ℕ → α) (s : ℕ → EReal) : ℕ → α
  | 0 => z
  | k + 1 => if topOf s k < s k then c k else topAt z c s k

/-- The running best is the first maximum, and its counter is that entry's; while nothing above minus infinity came, both are as
    they began. -/
theorem top_spec {α : Type} (z : α) (c : ℕ → α) (s : ℕ → EReal) (k : ℕ) :
    ((∀ i < k, s i = ⊥) ∧ topOf s k = ⊥ ∧ topAt z c s k = z)
      ∨ ∃ i < k, topOf s k = s i ∧ topAt z c s k = c i ∧ ⊥ < s i ∧ (∀ i' < k, s i' ≤ s i) ∧ ∀ i' < i, s i' < s i := by
  induction k with
  | zero => exact .inl ⟨fun i hi => absurd hi (Nat.not_lt_zero i), rfl, rfl⟩
  | succ k ih =>
    by_cases h : topOf s k < s k
    · refine .inr ⟨k, Nat.lt_succ_self k, by rw [topOf, if_pos h], by rw [topAt, if_pos h], lt_of_le_of_lt bot_le h, ?_⟩
      have below : ∀ i' < k, s i' < s k := by
        intro i' hi'
        rcases ih with ⟨hb, ht, -⟩ | ⟨i, -, ht, -, -, hm, -⟩
        · rw [hb i' hi', ← ht]; exact h
        · exact (hm i' hi').trans_lt (ht ▸ h)
      refine ⟨fun i' hi' => ?_, below⟩
      rcases Nat.lt_succ_iff_lt_or_eq.1 hi' with h' | h'
      · exact (below i' h').le
      · rw [h']
    · rcases ih with ⟨hb, ht, ha⟩ | ⟨i, hi, ht, ha, hp, hm, hl⟩
      · refine .inl ⟨fun i hi => ?_, by rw [topOf, if_neg h, ht], by rw [topAt, if_neg h, ha]⟩
        rcases Nat.lt_succ_iff_lt_or_eq.1 hi with h' | h'
        · exact hb i h'
        · rw [h']; rw [ht] at h; exact le_bot_iff.1 (not_lt.1 h)
      · refine .inr ⟨i, hi.trans (Nat.lt_succ_self k), by rw [topOf, if_neg h, ht], by rw [topAt, if_neg h, ha], hp,
          fun i' hi' => ?_, hl⟩
        rcases Nat.lt_succ_iff_lt_or_eq.1 hi' with h' | h'
        · exact hm i' h'
        · rw [h', ← ht]; exact not_lt.1 h

/-- A pair of a value and a place is before another: its value greater, or equal and its place at or before. -/
def Leads (p q : EReal × ℤ) : Prop := q.1 < p.1 ∨ q.1 = p.1 ∧ p.2 ≤ q.2

theorem Leads.refl (p : EReal × ℤ) : Leads p p := .inr ⟨rfl, le_refl _⟩

theorem Leads.trans {p q r : EReal × ℤ} (h : Leads p q) (h' : Leads q r) : Leads p r := by
  rcases h with h | ⟨e, h⟩ <;> rcases h' with h' | ⟨e', h'⟩
  · exact .inl (h'.trans h)
  · exact .inl (e' ▸ h)
  · exact .inl (e ▸ h')
  · exact .inr ⟨e'.trans e, h.trans h'⟩

theorem Leads.total (p q : EReal × ℤ) : Leads p q ∨ Leads q p := by
  rcases lt_trichotomy p.1 q.1 with h | h | h
  · exact .inr (.inl h)
  · rcases le_total p.2 q.2 with h' | h'
    · exact .inl (.inr ⟨h.symm, h'⟩)
    · exact .inr (.inr ⟨h, h'⟩)
  · exact .inl (.inl h)

/-- A fold that keeps, of two pairs, one that leads both, ends at one of the pairs met that leads them all. -/
theorem fold_leads {α : Type} (key : α → EReal × ℤ) (f : α → α → α)
    (hf : ∀ a b, (f a b = a ∧ Leads (key a) (key b)) ∨ (f a b = b ∧ Leads (key b) (key a))) (l : List α) :
    ∀ z, (l.foldl f z = z ∨ l.foldl f z ∈ l) ∧ Leads (key (l.foldl f z)) (key z) ∧ ∀ a ∈ l, Leads (key (l.foldl f z)) (key a) := by
  induction l with
  | nil => exact fun z => ⟨.inl rfl, .refl _, fun a ha => absurd ha List.not_mem_nil⟩
  | cons b l ih =>
    intro z
    obtain ⟨hm, hz, hl⟩ := ih (f z b)
    rw [List.foldl_cons]
    have hzb : Leads (key (f z b)) (key z) ∧ Leads (key (f z b)) (key b) := by
      rcases hf z b with ⟨e, h⟩ | ⟨e, h⟩
      · rw [e]; exact ⟨.refl _, h⟩
      · rw [e]; exact ⟨h, .refl _⟩
    refine ⟨?_, hz.trans hzb.1, fun a ha => ?_⟩
    · rcases hm with hm | hm
      · rw [hm]
        rcases hf z b with ⟨e, -⟩ | ⟨e, -⟩
        · exact .inl e
        · rw [e]; exact .inr List.mem_cons_self
      · exact .inr (List.mem_cons_of_mem _ hm)
    · rcases List.mem_cons.1 ha with rfl | ha
      · exact hz.trans hzb.2
      · exact hl a ha

end Cert.Proof

end
-- ==== Proof.IdealScore.lean ====
/- One entry's sum of noise and logit at the ideal numbers, and a block's kept sums as those. -/
module

public import proofs.«01_k».proof.Proof.IdealBlocks
public import proofs.«01_k».proof.Proof.Winner
public import Idealize.ShloMosaic.Lib.Pipeline.Regions
public import Idealize.ShloMosaic.PureOps.Ideal.Laws
public import Mathlib.Tactic.Ring

@[expose] public section

noncomputable section

namespace Cert.Proof

open Idealize.ShloMosaic

/-- The noise of one counter. -/
def noiseAt {F : FTy → Type} [FloatOps F] (w : BitVec 32) : F .f32 :=
  noise (s := ⟨0, ![]⟩) (fun _ => w) (fun a => a.elim0)

set_option maxRecDepth 20000 in
/-- Every entry's noise is that of its own counter. -/
theorem noise_apply {F : FTy → Type} [FloatOps F] {s : Shape} (x : IVec s 32) (y : s.Idx) :
    noise (F := F) x y = noiseAt (x y) := by chain_rfl

/-- The counter of row `i`, column `j`, with the key's second word added. -/
def counter (i j : ℕ) : BitVec 32 := BitVec.ofNat 32 (i * 1000000 + j + 42)

end Cert.Proof

namespace Cert.KernelIdeal.Hand

open Idealize.ShloMosaic Idealize.ShloMosaic.TcCoe
open Cert.KernelIdeal Cert.KernelIdeal.Gen Cert.Proof

/-- The sum of noise and logit at row `i`, column `j`. -/
def score (L : FVec Ideal S32x1000000 .f32) (i j : ℕ) : EReal :=
  (noiseAt (F := Ideal) (counter i j) : EReal) + (L (logitIx i j) : EReal)

/-- The base counters: those of the first row block's first block. -/
def IsBase (B : IVec S16x32768 32) : Prop := ∀ y : S16x32768.Idx, B y = counter (y 0).val (y 1).val

variable {L : FVec Ideal S32x1000000 .f32} {B : IVec S16x32768 32} (hB : IsBase B) (r k : ℕ)

theorem addi_apply {s : Shape} (x z : IVec s 32) (y : s.Idx) : addi x z y = x y + z y := rfl
theorem subi_apply {s : Shape} (x z : IVec s 32) (y : s.Idx) : subi x z y = x y - z y := rfl
theorem muli_apply {s : Shape} (x z : IVec s 32) (y : s.Idx) : muli x z y = x y * z y := rfl
theorem addf_apply {s : Shape} (x z : FVec Ideal s .f32) (y : s.Idx) : addf x z y = ((x y : EReal) + (z y : EReal)) := rfl
theorem spread_apply {α : Type} (s : Shape) (a : α) (y : s.Idx) : broadcast s a y = a := rfl
theorem word_addi (a b : BitVec 32) : Scalar.addi a b = a + b := rfl
theorem word_muli (a b : BitVec 32) : Scalar.muli a b = a * b := rfl

include hB in
theorem ctrs_apply (y : S16x32768.Idx) :
    ctrs (BitVec.ofNat 32 r) (BitVec.ofNat 32 k) B y = counter (16 * r + (y 0).val) (32768 * k + (y 1).val) := by
  unfold ctrs
  rw [addi_apply, spread_apply, word_addi, word_muli, word_muli, hB y, counter, counter, ← BitVec.ofNat_mul, ← BitVec.ofNat_mul, ← BitVec.ofNat_add, ← BitVec.ofNat_add]
  exact congrArg (BitVec.ofNat 32) (by omega)

theorem ideal_bottom : (Scalar.ofBits .f32 0xFF800000#32 : Ideal .f32) = (⊥ : EReal) := by
  show Ideal.ieee 8 23 (0xFF800000#32 : BitVec 32) = ⊥
  unfold Ideal.ieee
  simp

/-- Column `y`'s kept sum in block `k`. -/
def colSum (L : FVec Ideal S32x1000000 .f32) (r : ℕ) (y : S16x32768.Idx) (k : ℕ) : EReal :=
  if 32768 * k + (y 1).val < 1000000 then score L (16 * r + (y 0).val) (32768 * k + (y 1).val) else ⊥

include hB in
theorem sums_apply (hk : k < 31) (y : S16x32768.Idx) :
    sums (BitVec.ofNat 32 r) (BitVec.ofNat 32 k) (blockKeep k) B (xblk L r k) y = colSum L r y k := by
  have hy : (y 1).val < 32768 := (y 1).isLt
  have hs : 32768 * k + (y 1).val < 1000000 →
      addf (noise (ctrs (BitVec.ofNat 32 r) (BitVec.ofNat 32 k) B)) (xblk L r k) y = colSum L r y k := fun h => by
    rw [addf_apply, noise_apply, ctrs_apply hB, colSum, if_pos h, xblk, if_pos h, score]
  unfold sums blockKeep
  by_cases h30 : k = 30
  · rw [if_pos h30]
    unfold clipBlock
    by_cases hc : (y 1).val < 16960
    · rw [if_pos hc]; exact hs (by omega)
    · rw [if_neg hc, colSum, if_neg (by omega)]; exact ideal_bottom
  · rw [if_neg h30]; exact hs (by omega)

/-- The counters of column `y`'s entries, block by block. -/
def colAt (r : ℕ) (y : S16x32768.Idx) (k : ℕ) : BitVec 32 := counter (16 * r + (y 0).val) (32768 * k + (y 1).val)

theorem select_gt {α : Type} (a b : EReal) (x z : α) :
    Scalar.select (FloatOps.cmpf (F := Ideal) (φ := .f32) .ogt a b) x z = if b < a then x else z := by
  rw [Ideal.cmpf_def]
  by_cases h : b < a
  · simp [Ideal.cmp, h, Scalar.select]
  · simp [Ideal.cmp, h, Scalar.select]

include hB in
theorem step_apply (hk : k < 31) (y : S16x32768.Idx) {rv : FVec Ideal S16x32768 .f32} {ri : IVec S16x32768 32}
    (hv : firstBest k rv y = topOf (colSum L r y) k) (hi : firstAt k ri y = topAt 1073741824#32 (colAt r y) (colSum L r y) k) :
    bestAfter k (BitVec.ofNat 32 r) (BitVec.ofNat 32 k) B (xblk L r k) rv y = topOf (colSum L r y) (k + 1)
      ∧ atAfter k (BitVec.ofNat 32 r) (BitVec.ofNat 32 k) B (xblk L r k) rv ri y
        = topAt 1073741824#32 (colAt r y) (colSum L r y) (k + 1) := by
  have hs := sums_apply (L := L) hB r k hk y
  constructor
  · unfold bestAfter newBest
    refine (select_gt _ _ _ _).trans ?_
    rw [hs, hv, topOf]
  · unfold atAfter newAt
    refine (select_gt _ _ _ _).trans ?_
    rw [hs, hv, hi, ctrs_apply hB, topAt, colAt]

include hB in
/-- The running buffers after `k + 1` blocks, column by column. -/
theorem run_apply (y : S16x32768.Idx) : ∀ k, k < 31 → bestOf L B r (k + 1) y = topOf (colSum L r y) (k + 1)
      ∧ atOf L B r (k + 1) y = topAt 1073741824#32 (colAt r y) (colSum L r y) (k + 1)
  | 0, h => step_apply hB r 0 h y (by rw [firstBest, if_pos rfl]; exact ideal_bottom) (by rw [firstAt, if_pos rfl]; rfl)
  | k + 1, h =>
    have ih := run_apply y k (by omega)
    step_apply hB r (k + 1) h y (by rw [firstBest, if_neg (Nat.succ_ne_zero k)]; exact ih.1)
      (by rw [firstAt, if_neg (Nat.succ_ne_zero k)]; exact ih.2)

end Cert.KernelIdeal.Hand

end
-- ==== Proof.IdealWon.lean ====
/- What the kernel stores for a row at the ideal numbers: the row's winner, wherever some sum is above minus infinity. -/
module

public import proofs.«01_k».proof.Proof.IdealScore
public import Idealize.ShloMosaic.Lib.Pointwise.ShapeOps
public import Idealize.ShloMosaic.Lib.SortNet.Extract

@[expose] public section

noncomputable section

namespace Cert.KernelIdeal.Hand

open Idealize.ShloMosaic Idealize.ShloMosaic.TcCoe
open Cert.KernelIdeal Cert.KernelIdeal.Gen Cert.Proof

/-- A signed minimum over a set: at most its start and every word, and one of them. -/
theorem least_word {ι : Type} (s : Finset ι) (f : ι → BitVec 32) (z : BitVec 32) :
    (s.fold IntOp.minsi z f).toInt ≤ z.toInt ∧ (∀ i ∈ s, (s.fold IntOp.minsi z f).toInt ≤ (f i).toInt)
      ∧ (s.fold IntOp.minsi z f = z ∨ ∃ i ∈ s, s.fold IntOp.minsi z f = f i) := by
  classical
  induction s using Finset.induction_on with
  | empty => exact ⟨le_refl _, fun i hi => absurd hi (Finset.notMem_empty i), .inl rfl⟩
  | insert a s ha ih =>
    obtain ⟨h0, h1, h2⟩ := ih
    rw [Finset.fold_insert ha]
    have hm := SortNet.toInt_minsi (f a) (s.fold IntOp.minsi z f)
    refine ⟨?_, fun i hi => ?_, ?_⟩
    · rw [hm]; exact (min_le_right _ _).trans h0
    · rw [hm]
      rcases Finset.mem_insert.1 hi with rfl | hi
      · exact min_le_left _ _
      · exact (min_le_right _ _).trans (h1 i hi)
    · rcases min_choice (f a).toInt (s.fold IntOp.minsi z f).toInt with h | h
      · exact .inr ⟨a, Finset.mem_insert_self a s, BitVec.eq_of_toInt_eq (hm.trans h)⟩
      · have e := BitVec.eq_of_toInt_eq (hm.trans h)
        rcases h2 with h2 | ⟨i, hi, h2⟩
        · exact .inl (e.trans h2)
        · exact .inr ⟨i, Finset.mem_insert_of_mem hi, e.trans h2⟩

theorem select_same {α : Type} (a b : EReal) (x z : α) [Decidable (a = b)] :
    Scalar.select (FloatOps.cmpf (F := Ideal) (φ := .f32) .oeq a b) x z = if a = b then x else z := by
  rw [Ideal.cmpf_def]
  by_cases h : a = b
  · simp [Ideal.cmp, h, Scalar.select]
  · simp [Ideal.cmp, h, Scalar.select]

theorem column_apply {α : Type} (v : S16.Idx → α) (h : S16.ShapeCasts S16x1) (y : S16x1.Idx) :
    shapeCast S16x1 v h y = v (ix1 (y 0)) := by
  simp only [pointwise]

theorem spread_column {α : Type} (v : S16x1.Idx → α) (h : S16x1.Broadcasts S16x32768) (y : S16x32768.Idx) :
    broadcastTo S16x32768 v h y = v (ix2 (y 0) 0) :=
  congrArg v (funext fun a => by fin_cases a <;> rfl)

theorem lift_row (h : S16x32768.Reduces [1] S16) (a : Fin 16) (b : Fin 32768) : h.lift (ix1 a) b = ix2 a b :=
  funext fun c => by fin_cases c <;> rfl

/-- The greatest of a row. -/
def rowTop (rv : FVec Ideal S16x32768 .f32) (a : Fin 16) : EReal :=
  (Finset.univ : Finset (Fin 32768)).fold max (⊥ : EReal) (fun b => rv (ix2 a b))

theorem top_apply (rv : FVec Ideal S16x32768 .f32) (a : Fin 16) (h : S16x32768.Reduces [1] S16) (hφ : FKind.Formats .f32)
    (hacc : (0xFF800000#32 : BitVec 32) = FKind.maximumf.neutral .f32 hφ) :
    multiReduction .maximumf [1] S16 rv 0xFF800000#32 h hφ hacc (ix1 a) = rowTop rv a := by
  refine (Ideal.multiReduction_maximumf_single rv _ h hφ hacc (ix1 a)).trans ?_
  have e : (FloatOps.ofBits .f32 0xFF800000#32 : Ideal .f32) = (⊥ : EReal) := ideal_bottom
  rw [e]
  exact Finset.fold_congr fun b _ => congrArg rv (lift_row h a b)

theorem least_apply (x : IVec S16x32768 32) (a : Fin 16) (h : S16x32768.Reduces [1] S16)
    (hacc : (2147483647#32 : BitVec 32) = IKind.minsi.neutral) :
    multiReductionI .minsi [1] S16 x 2147483647#32 h hacc (ix1 a)
      = (Finset.univ : Finset (Fin 32768)).fold IntOp.minsi 2147483647#32 (fun b => x (ix2 a b)) := by
  refine (multiReductionI_eq_fold .minsi x _ h hacc (ix1 a)).trans ?_
  refine (Shape.Reduces.fold_filter_drop_single h (IKind.op .minsi) _ x (ix1 a)).trans ?_
  exact Finset.fold_congr fun b _ => congrArg x (lift_row h a b)

open Classical in
theorem winners_apply (r : ℕ) (rv : FVec Ideal S16x32768 .f32) (ri : IVec S16x32768 32) (y : S16x1.Idx) :
    winners (BitVec.ofNat 32 r) rv ri y
      = (Finset.univ : Finset (Fin 32768)).fold IntOp.minsi 2147483647#32
          (fun b => if (rv (ix2 (y 0) b) : EReal) = rowTop rv (y 0) then ri (ix2 (y 0) b) else 1073741824#32)
        - counter (16 * r + (y 0).val) 0 := by
  unfold winners
  refine congrArg₂ (fun p q : BitVec 32 => p - q) ?_ ?_
  · refine (column_apply _ _ y).trans ((least_apply _ (y 0) _ _).trans (Finset.fold_congr fun b _ => ?_))
    refine (select_same _ _ _ _).trans ?_
    have e := (spread_column (shapeCast S16x1 (multiReduction .maximumf [1] S16 rv 0xFF800000#32 reduces_S16x32768_S16 (.inl rfl) rfl)
      shapeCasts_S16_S16x1) broadcasts_S16x1_S16x32768 (ix2 (y 0) b)).trans
      ((column_apply _ _ _).trans (top_apply rv (y 0) _ _ _))
    rw [e]
    rfl
  · rw [addi_apply, muli_apply, addi_apply, spread_apply, spread_apply, spread_apply, word_muli]
    have e : iota .tc S16x1 32 [0] iota_S16x1_d0_w32 y = BitVec.ofNat 32 (0 * 16 + (y 0).val) := rfl
    rw [e, counter,
      ← BitVec.ofNat_mul, ← BitVec.ofNat_add, ← BitVec.ofNat_mul, ← BitVec.ofNat_add]
    exact congrArg (BitVec.ofNat 32) (by omega)

theorem counter_toInt {i j : ℕ} (hi : i < 32) (hj : j < 1000000) : (counter i j).toInt = ((i * 1000000 + j + 42 : ℕ) : ℤ) := by
  have e : (counter i j).toNat = i * 1000000 + j + 42 := by
    rw [counter, BitVec.toNat_ofNat]; exact Nat.mod_eq_of_lt (by omega)
  rw [BitVec.toInt_eq_toNat_of_lt (by omega), e]

theorem counter_sub (i j : ℕ) : counter i j - counter i 0 = BitVec.ofNat 32 j := by
  have e : counter i j = BitVec.ofNat 32 j + counter i 0 := by
    rw [counter, counter, ← BitVec.ofNat_add]; exact congrArg (BitVec.ofNat 32) (by omega)
  rw [e, BitVec.add_sub_cancel]

section Row

variable {L : FVec Ideal S32x1000000 .f32} {B : IVec S16x32768 32} (hB : IsBase B) (r : ℕ) (a : Fin 16) {j : ℕ}
  (h : Wins 1000000 (score L (16 * r + a.val)) j) (hp : ⊥ < score L (16 * r + a.val) j)

include h in
theorem colSum_le (b : Fin 32768) (k : ℕ) : colSum L r (ix2 a b) k ≤ score L (16 * r + a.val) j := by
  unfold colSum
  split
  · exact h.most _ ‹_›
  · exact bot_le

include h hp in
/-- A column whose sum in block `k` is the winner's is at or after it. -/
theorem le_of_colSum {b : Fin 32768} {k : ℕ} (e : colSum L r (ix2 a b) k = score L (16 * r + a.val) j) :
    32768 * k + b.val < 1000000 ∧ j ≤ 32768 * k + b.val := by
  unfold colSum at e
  by_cases hc : 32768 * k + ((ix2 a b : S16x32768.Idx) 1).val < 1000000
  · rw [if_pos hc] at e
    exact ⟨hc, h.le_of_eq e⟩
  · rw [if_neg hc] at e
    exact absurd e hp.ne

include hB h in
theorem best_le (b : Fin 32768) : (bestOf L B r 31 (ix2 a b) : EReal) ≤ score L (16 * r + a.val) j := by
  rw [(run_apply (L := L) hB r (ix2 a b) 30 (by omega)).1]
  rcases top_spec (1073741824#32) (colAt r (ix2 a b)) (colSum L r (ix2 a b)) 31 with ⟨-, ht, -⟩ | ⟨k, -, ht, -⟩
  · rw [ht]; exact bot_le
  · rw [ht]; exact colSum_le r a h b k

include hB h hp in
/-- A column that holds the row's maximum keeps a counter at or after the winner's. -/
theorem at_of_best {b : Fin 32768} (e : (bestOf L B r 31 (ix2 a b) : EReal) = score L (16 * r + a.val) j) :
    ∃ j' < 1000000, j ≤ j' ∧ atOf L B r 31 (ix2 a b) = counter (16 * r + a.val) j' := by
  rw [(run_apply (L := L) hB r (ix2 a b) 30 (by omega)).1] at e
  rw [(run_apply (L := L) hB r (ix2 a b) 30 (by omega)).2]
  rcases top_spec (1073741824#32) (colAt r (ix2 a b)) (colSum L r (ix2 a b)) 31 with ⟨-, ht, -⟩ | ⟨k, -, ht, ha, -⟩
  · rw [ht] at e; exact absurd e hp.ne
  · have hk := le_of_colSum r a h hp (ht.symm.trans e)
    exact ⟨_, hk.1, hk.2, ha⟩

include hB h hp in
/-- The winner's own column holds the row's maximum and the winner's counter. -/
theorem own_column : (bestOf L B r 31 (ix2 a ⟨j % 32768, Nat.mod_lt _ (by decide)⟩) : EReal) = score L (16 * r + a.val) j
    ∧ atOf L B r 31 (ix2 a ⟨j % 32768, Nat.mod_lt _ (by decide)⟩) = counter (16 * r + a.val) j := by
  have hj := h.lt
  obtain ⟨b, hb⟩ : ∃ b : Fin 32768, b = ⟨j % 32768, Nat.mod_lt _ (by decide)⟩ := ⟨_, rfl⟩
  have hbv : b.val = j % 32768 := by rw [hb]
  rw [← hb]
  have hown : colSum L r (ix2 a b) (j / 32768) = score L (16 * r + a.val) j := by
    have e : 32768 * (j / 32768) + b.val = j := by omega
    unfold colSum
    rw [show ((ix2 a b : S16x32768.Idx) 1).val = b.val from rfl, show ((ix2 a b : S16x32768.Idx) 0).val = a.val from rfl, e, if_pos hj]
  rw [(run_apply (L := L) hB r (ix2 a b) 30 (by omega)).1, (run_apply (L := L) hB r (ix2 a b) 30 (by omega)).2]
  rcases top_spec (1073741824#32) (colAt r (ix2 a b)) (colSum L r (ix2 a b)) 31 with ⟨hn, -, -⟩ | ⟨k, hk, ht, ha, -, hm, hl⟩
  · have := hn (j / 32768) (by omega)
    rw [hown] at this; exact absurd this hp.ne'
  · have he : colSum L r (ix2 a b) k = score L (16 * r + a.val) j :=
      le_antisymm (colSum_le r a h b k) (hown ▸ hm (j / 32768) (by omega))
    have hge := (le_of_colSum r a h hp he).2
    have hle : ¬ j / 32768 < k := fun hlt => by
      have := hl _ hlt
      rw [hown, he] at this; exact lt_irrefl _ this
    have hkk : k = j / 32768 := by omega
    refine ⟨ht.trans he, ha.trans ?_⟩
    show counter (16 * r + a.val) (32768 * k + b.val) = _
    rw [show 32768 * k + b.val = j by omega]

include hB h hp in
theorem rowTop_eq : rowTop (bestOf L B r 31) a = score L (16 * r + a.val) j := by
  refine le_antisymm ((Finset.fold_max_le _).2 ⟨bot_le, fun b _ => best_le hB r a h b⟩) ?_
  exact (Finset.le_fold_max _).2 (.inr ⟨_, Finset.mem_univ _, (own_column hB r a h hp).1.ge⟩)

include hB h hp in
/-- The kernel's word for a row is its winner. -/
theorem won_apply (hr : r < 2) (y : S16x1.Idx) (hy : y 0 = a) : won L B r y = BitVec.ofNat 32 j := by
  have hi : 16 * r + a.val < 32 := by have := a.isLt; omega
  have hj := counter_toInt hi h.lt
  unfold won
  rw [winners_apply, hy, rowTop_eq hB r a h hp, ← counter_sub (16 * r + a.val) j]
  refine congrArg (· - counter (16 * r + a.val) 0) ?_
  obtain ⟨-, hle, hmem⟩ := least_word (Finset.univ : Finset (Fin 32768))
    (fun b => if (bestOf L B r 31 (ix2 a b) : EReal) = score L (16 * r + a.val) j then atOf L B r 31 (ix2 a b) else 1073741824#32)
    2147483647#32
  have hown := hle ⟨j % 32768, Nat.mod_lt _ (by decide)⟩ (Finset.mem_univ _)
  rw [if_pos (own_column hB r a h hp).1, (own_column hB r a h hp).2, hj] at hown
  have hjl := h.lt
  rcases hmem with hz | ⟨b, -, hb⟩
  · rw [hz] at hown
    rw [show (2147483647#32 : BitVec 32).toInt = 2147483647 by decide] at hown
    omega
  · by_cases hc : (bestOf L B r 31 (ix2 a b) : EReal) = score L (16 * r + a.val) j
    · obtain ⟨j', hj', hjj, e⟩ := at_of_best hB r a h hp hc
      rw [if_pos hc, e] at hb
      rw [hb, counter_toInt hi hj'] at hown
      rw [hb, show j' = j by omega]
    · rw [if_neg hc] at hb
      rw [hb, show (1073741824#32 : BitVec 32).toInt = 1073741824 by decide] at hown
      omega

end Row

end Cert.KernelIdeal.Hand

end
-- ==== Proof.IdealArray.lean ====
/- The kernel's result array after the run, and the counters the host hands it. -/
module

public import proofs.«01_k».proof.Proof.IdealRun
public import proofs.«01_k».proof.Proof.IdealWon
public import Idealize.ShloMosaic.Lib.Pipeline.ValueKit.Geometry

@[expose] public section

noncomputable section

namespace Cert.KernelIdeal.Hand

open Idealize.ShloMosaic Idealize.ShloMosaic.TcCoe Idealize.SL.Sem
open Cert.KernelIdeal Cert.KernelIdeal.Gen Cert.Proof

variable {F : FTy → Type} [FloatOps F]

/-- The result: each row the winner its row block finds. -/
def answer (L : FVec F S32x1000000 .f32) (B : IVec S16x32768 32) : IVec S32x1 32 := fun y =>
  won L B ((y 0).val / 16) (ix2 ⟨(y 0).val % 16, Nat.mod_lt _ (by decide)⟩ 0)

theorem index2_eq : ∀ t : Fin grid0.N, win0_2.index t 0 = t.val / 31 := by decide +kernel

variable (m : (ℓ : Loc nD τ sig) → Buf (Elt F) ℓ) (c : Dev nD)

/-- The two written blocks make the result array. -/
theorem array_eq : (dats m 0 c).arrAt 2 cfg0.N = answer (logits m c) (baseCtr m c) := by
  refine (dats m 0 c).arrAt_eq_of_covers 2 _ (by decide +kernel) fun t hf y => ?_
  have hi := index2_eq t
  have hy : (y 0).val < 16 := lt_of_lt_of_le (y 0).isLt (win0_2.xsize_le (grid0.coords t) 0)
  have hz : (y 1).val < 1 := lt_of_lt_of_le (y 1).isLt (win0_2.xsize_le (grid0.coords t) 1)
  have e0 : ((((cfg0.win 2).blk t).view.emb y : S32x1.Idx) 0).val = win0_2.index t 0 * 16 + 1 * (y 0).val := rfl
  rw [hi] at e0
  show won (logits m c) (baseCtr m c) (t.val / 31) _ = won (logits m c) (baseCtr m c) (((((cfg0.win 2).blk t).view.emb y : S32x1.Idx) 0).val / 16) _
  rw [show ((((cfg0.win 2).blk t).view.emb y : S32x1.Idx) 0).val / 16 = t.val / 31 by omega]
  refine congrArg _ (funext fun a => Fin.ext ?_)
  fin_cases a
  · show (y 0).val = ((((cfg0.win 2).blk t).view.emb y : S32x1.Idx) 0).val % 16
    omega
  · show (y 1).val = 0
    omega

/-- The host's counters, operation by operation. -/
theorem base_eq : baseCtr m c = addi (addi (muli (iotaInDim S16x32768 32 0) (broadcast S16x32768 1000000#32)) (iotaInDim S16x32768 32 1))
    (broadcast S16x32768 42#32) := by chain_rfl

theorem base_isBase : IsBase (baseCtr m c) := fun y => by
  rw [base_eq, addi_apply, addi_apply, muli_apply, spread_apply, spread_apply]
  rw [show iotaInDim S16x32768 32 0 y = BitVec.ofNat 32 (y 0).val from rfl, show iotaInDim S16x32768 32 1 y = BitVec.ofNat 32 (y 1).val from rfl,
    ← BitVec.ofNat_mul, ← BitVec.ofNat_add, ← BitVec.ofNat_add]
  rfl

end Cert.KernelIdeal.Hand

end
-- ==== Proof.RefScore.lean ====
/- The reference's result at the ideal numbers: its sums are the kernel's, and each row's argmax is the row's winner,
   wherever some sum is above minus infinity. -/
module

public import proofs.«01_k».proof.Proof.RefResult
public import proofs.«01_k».proof.Proof.IdealWon

@[expose] public section

noncomputable section

namespace Cert.ReferenceIdeal.Hand

open Idealize.ShloMosaic Idealize.ShloMosaic.TcCoe
open Cert.ReferenceIdeal Cert.ReferenceIdeal.Gen Cert.Proof
open Cert.KernelIdeal.Hand (addi_apply muli_apply addf_apply spread_apply score logitIx counter_toInt ideal_bottom)

/-! ## The sums -/

theorem fill_apply (n : BitVec 32) (y : S32x1000000.Idx) : fill n y = n := rfl

theorem start_turned : turned 13#32 19#32 (addi (fill 0#32) (fill 0#32), counters)
    = (counters, xori (turn 13#32 19#32 counters) counters) := by
  have e : addi (addi (fill 0#32) (fill 0#32)) counters = counters := by
    funext y
    rw [addi_apply, addi_apply, fill_apply]
    exact BitVec.zero_add _
  unfold turned
  rw [e]

set_option maxRecDepth 20000 in
/-- The cipher's two words combined are the kernel's bits. -/
theorem cipher_bits : xori (cipher (addi (fill 0#32) (fill 0#32), counters)).1 (cipher (addi (fill 0#32) (fill 0#32), counters)).2
    = bitsOf counters := by
  have e : cipher (addi (fill 0#32) (fill 0#32), counters)
      = groupA 466689008#32 5#32 (groupB 42#32 466689012#32 (groupA 0#32 45#32 (groupB 466689008#32 2#32
          (keyed 42#32 466689009#32 (turned 6#32 26#32 (turned 26#32 6#32 (turned 15#32 17#32
            (counters, xori (turn 13#32 19#32 counters) counters)))))))) := by
    rw [← start_turned]; rfl
  refine (congrArg (fun q : IVec S32x1000000 32 × IVec S32x1000000 32 => xori q.1 q.2) e).trans ?_
  chain_rfl

theorem unitOf_eq {F : FTy → Type} [FloatOps F] (w : IVec S32x1000000 32) : unitOf (F := F) w = uniformOf w := by
  unfold unitOf
  rw [shrui_fill (by decide)]
  rfl

/-- The reference's Gumbel transform is the kernel's: to negate is to subtract from zero. -/
theorem gumbel_apply (u : FVec Ideal S32x1000000 .f32) (y : S32x1000000.Idx) :
    (Host.negf (Host.log (Host.negf (Host.log u))) y : EReal) = gumbelOf u y := by
  show -(Ideal.log (-(Ideal.log (u y)))) = Ideal.ofBits .f32 0x00000000#32 - Ideal.log (Ideal.ofBits .f32 0x00000000#32 - Ideal.log (u y))
  rw [Ideal.ofBits_zero_f32, zero_sub, zero_sub]

theorem counters_apply (y : S32x1000000.Idx) : counters y = counter (y 0).val (y 1).val := by
  unfold counters
  rw [addi_apply, addi_apply, muli_apply, fill_apply, fill_apply,
    show iotaInDim S32x1000000 32 0 y = BitVec.ofNat 32 (y 0).val from rfl,
    show iotaInDim S32x1000000 32 1 y = BitVec.ofNat 32 (y 1).val from rfl,
    ← BitVec.ofNat_mul, ← BitVec.ofNat_add, ← BitVec.ofNat_add]
  rfl

theorem logitIx_self (y : S32x1000000.Idx) : logitIx (y 0).val (y 1).val = y := by
  funext a
  fin_cases a
  · exact Fin.ext (Nat.mod_eq_of_lt (y 0).isLt)
  · exact Fin.ext (Nat.mod_eq_of_lt (y 1).isLt)

/-- The reference's sum at an entry is the kernel's score there. -/
theorem scores_apply (L : FVec Ideal S32x1000000 .f32) (y : S32x1000000.Idx) :
    scoresOf (bitsOf counters) L y = score L (y 0).val (y 1).val := by
  unfold scoresOf
  rw [addf_apply, gumbel_apply, unitOf_eq]
  rw [show gumbelOf (uniformOf (bitsOf counters)) y = noise (F := Ideal) counters y from rfl, noise_apply, counters_apply, score,
    logitIx_self]

/-! ## The argmax -/

/-- A pair's value, and its place as an integer. -/
def keyOf (p : Ideal .f32 × BitVec 32) : EReal × ℤ := (p.1, p.2.toInt)

theorem reducer_leads (p q : Ideal .f32 × BitVec 32) :
    (reducer_argmax_f32_i32 p q = p ∧ Leads (keyOf p) (keyOf q)) ∨ (reducer_argmax_f32_i32 p q = q ∧ Leads (keyOf q) (keyOf p)) := by
  obtain ⟨a, i⟩ := p
  obtain ⟨b, k⟩ := q
  have hu : FloatOps.cmpf (F := Ideal) (φ := .f32) .une a a = 0#1 := by simp [Ideal.cmpf_def, Ideal.cmp]
  unfold reducer_argmax_f32_i32 Leads keyOf
  simp only [hu]
  rcases lt_trichotomy (a : EReal) b with h | h | h
  · refine .inr ?_
    simp [Ideal.cmpf_def, Ideal.cmp, h, h.ne, h.not_gt, IntOp.ori, IntOp.andi, Scalar.select]
  · subst h
    by_cases hs : i.toInt < k.toInt
    · refine .inl ?_
      simp [Ideal.cmpf_def, Ideal.cmp, IntOp.ori, IntOp.andi, IntOp.cmpi, BitVec.slt, hs, hs.le, Scalar.select]
    · refine .inr ?_
      simp [Ideal.cmpf_def, Ideal.cmp, IntOp.ori, IntOp.andi, IntOp.cmpi, BitVec.slt, hs, not_lt.1 hs, Scalar.select]
  · refine .inl ?_
    simp [Ideal.cmpf_def, Ideal.cmp, h, h.ne', IntOp.ori, IntOp.andi, Scalar.select]

end Cert.ReferenceIdeal.Hand

end
-- ==== Proof.RefWon.lean ====
/- The reference's word for a row at the ideal numbers: the row's winner, wherever some sum is above minus infinity. -/
module

public import proofs.«01_k».proof.Proof.RefScore

@[expose] public section

noncomputable section

namespace Cert.ReferenceIdeal.Hand

open Idealize.ShloMosaic Idealize.ShloMosaic.TcCoe
open Cert.ReferenceIdeal Cert.ReferenceIdeal.Gen Cert.Proof
open Cert.KernelIdeal.Hand (score logitIx ideal_bottom)

theorem reduces_row : S32x1000000.Reduces [1] S32 := by decide

theorem lift_entry (i : Fin 32) (b : Fin 1000000) : reduces_row.lift (ix1 i) b = ix2 i b :=
  funext fun c => by fin_cases c <;> rfl

/-- The entries that a row's reduction meets are the row's. -/
theorem drop_iff (i : Fin 32) (y : S32x1000000.Idx) :
    reducesTo_S32x1000000_S32_d1.drop y = ix1 i ↔ ∃ b : Fin 1000000, y = ix2 i b := by
  rw [Shape.ReducesTo.drop_eq_drop reducesTo_S32x1000000_S32_d1 reduces_row]
  refine ⟨fun e => ⟨y 1, ?_⟩, ?_⟩
  · have := reduces_row.lift_drop y
    rw [e] at this
    exact this.symm.trans (lift_entry i (y 1))
  · rintro ⟨b, rfl⟩
    rw [← lift_entry]
    exact reduces_row.drop_lift _ _

/-- The pairs of a row's reduction: each entry and its column. -/
theorem mem_fiber (X : FVec Ideal S32x1000000 .f32) (i : Fin 32) (p : Ideal .f32 × BitVec 32) :
    p ∈ Host.argReduceFiber X (iotaInDim S32x1000000 32 1) reducesTo_S32x1000000_S32_d1 (ix1 i)
      ↔ ∃ b : Fin 1000000, p = (X (ix2 i b), BitVec.ofNat 32 b.val) := by
  unfold Host.argReduceFiber
  rw [List.mem_map]
  constructor
  · rintro ⟨n, hn, rfl⟩
    obtain ⟨b, hb⟩ := (drop_iff i _).1 (of_decide_eq_true (List.mem_filter.1 hn).2)
    rw [hb]
    exact ⟨b, rfl⟩
  · rintro ⟨b, rfl⟩
    refine ⟨S32x1000000.rowMajor (ix2 i b), List.mem_filter.2 ⟨List.mem_finRange _, decide_eq_true ?_⟩, ?_⟩
    · rw [Equiv.symm_apply_apply]; exact (drop_iff i _).2 ⟨b, rfl⟩
    · rw [Equiv.symm_apply_apply]; rfl

theorem spread_rows {α : Type} (v : S32.Idx → α) (y : S32x1.Idx) :
    broadcastInDim S32x1 ![0] bcast_S32_S32x1_0 v y = v (ix1 (y 0)) :=
  congrArg v (funext fun a => by fin_cases a; rfl)

theorem spread_places {α β : Type} (A : S32.Idx → α × β) (y : S32x1.Idx) :
    broadcastInDim S32x1 ![0] bcast_S32_S32x1_0 (fun j => (A j).2) y = (A (ix1 (y 0))).2 :=
  spread_rows (fun j => (A j).2) y

/-- A row's argmax is the place of a fold over the row's pairs, from a pair at minus infinity. -/
theorem chosen_apply (X : FVec Ideal S32x1000000 .f32) (y : S32x1.Idx) :
    ∃ (l : List (Ideal .f32 × BitVec 32)) (z : Ideal .f32 × BitVec 32), chosen X y = (l.foldl reducer_argmax_f32_i32 z).2
      ∧ (z.1 : EReal) = ⊥ ∧ ∀ p, p ∈ l ↔ ∃ b : Fin 1000000, p = (X (ix2 (y 0) b), BitVec.ofNat 32 b.val) :=
  ⟨Host.argReduceFiber X (iotaInDim S32x1000000 32 1) reducesTo_S32x1000000_S32_d1 (ix1 (y 0)),
    (constant S_ .f32 0xFF800000#32 (Shape.Idx.first h_S_), constantI S_ 32 0#32 (Shape.Idx.first h_S_)),
    (spread_places (Host.argReduce reducer_argmax_f32_i32 X (iotaInDim S32x1000000 32 1)
      (constant S_ .f32 0xFF800000#32) (constantI S_ 32 0#32) reducesTo_S32x1000000_S32_d1 h_S_) y).trans
      (congrArg Prod.snd ((congrFun (Ideal.argReduce_eq_reduce2 reducer_argmax_f32_i32 X (iotaInDim S32x1000000 32 1)
        (constant S_ .f32 0xFF800000#32) (constantI S_ 32 0#32) reducesTo_S32x1000000_S32_d1 h_S_) (ix1 (y 0))).trans
        (Host.reduce2_eq_foldl_fiber reducer_argmax_f32_i32 X (iotaInDim S32x1000000 32 1)
        (constant S_ .f32 0xFF800000#32) (constantI S_ 32 0#32) reducesTo_S32x1000000_S32_d1 h_S_ (ix1 (y 0))))),
    ideal_bottom, mem_fiber X (y 0)⟩

theorem place_toInt {b : ℕ} (hb : b < 1000000) : (BitVec.ofNat 32 b).toInt = (b : ℤ) := by
  have e : (BitVec.ofNat 32 b).toNat = b := by rw [BitVec.toNat_ofNat]; exact Nat.mod_eq_of_lt (by omega)
  rw [BitVec.toInt_eq_toNat_of_lt (by omega), e]

/-- Such a fold over a row's pairs ends at the row's winner. -/
theorem fold_won {l : List (Ideal .f32 × BitVec 32)} {z : Ideal .f32 × BitVec 32} {x : Fin 1000000 → Ideal .f32} {s : ℕ → EReal}
    (hz : (z.1 : EReal) = ⊥) (hl : ∀ p, p ∈ l ↔ ∃ b : Fin 1000000, p = (x b, BitVec.ofNat 32 b.val))
    (hx : ∀ b : Fin 1000000, (x b : EReal) = s b.val) {j : ℕ} (h : Wins 1000000 s j) (hp : ⊥ < s j) :
    (l.foldl reducer_argmax_f32_i32 z).2 = BitVec.ofNat 32 j := by
  obtain ⟨hm, -, hall⟩ := fold_leads keyOf reducer_argmax_f32_i32 reducer_leads l z
  generalize l.foldl reducer_argmax_f32_i32 z = p at hm hall ⊢
  have hj := hall _ ((hl _).2 ⟨⟨j, h.lt⟩, rfl⟩)
  unfold Leads keyOf at hj
  simp only [hx] at hj
  rcases hm with rfl | hm
  · rw [hz] at hj
    rcases hj with hj | ⟨hj, -⟩
    · exact absurd hj not_lt_bot
    · exact absurd hj hp.ne'
  · obtain ⟨b, rfl⟩ := (hl p).1 hm
    simp only [hx] at hj
    rw [place_toInt b.isLt, place_toInt h.lt] at hj
    have hb := h.most b.val b.isLt
    rcases hj with hj | ⟨hj, hle⟩
    · exact absurd hj (not_lt.2 hb)
    · have := h.le_of_eq hj.symm
      rw [show b.val = j by omega]

/-- The reference's word for a row is its winner. -/
theorem result_apply (L : FVec Ideal S32x1000000 .f32) (y : S32x1.Idx) {j : ℕ}
    (h : Wins 1000000 (score L (y 0).val) j) (hp : ⊥ < score L (y 0).val j) : result L y = BitVec.ofNat 32 j := by
  unfold result
  rw [cipher_bits]
  obtain ⟨l, z, e, hz, hl⟩ := chosen_apply (scoresOf (bitsOf counters) L) y
  rw [e]
  exact fold_won hz hl (fun b => scores_apply L (ix2 (y 0) b)) h hp

end Cert.ReferenceIdeal.Hand

end
-- ==== Proof.Candidate.lean ====
/- What the precondition gives at the ideal numbers: every row has a logit above minus infinity, so, the noise being
   above minus infinity everywhere, every row has a sum above it. -/
module

public import proofs.«01_k».proof.Pre_row_has_candidate
public import proofs.«01_k».proof.Proof.IdealScore
public import Idealize.ShloMosaic.Lib.Pointwise.ShapeOps

@[expose] public section

noncomputable section

namespace Cert.Proof

open Idealize.ShloMosaic

/-! ## The two reductions -/

theorem some_of_or {ι : Type} (s : Finset ι) (f : ι → BitVec 1) (h : s.fold IntOp.ori 0#1 f = 1#1) : ∃ i ∈ s, f i = 1#1 := by
  classical
  induction s using Finset.induction_on with
  | empty =>
    rw [Finset.fold_empty] at h
    exact absurd h (by decide)
  | insert a s ha ih =>
    rw [Finset.fold_insert ha] at h
    have hor : ∀ p q : BitVec 1, IntOp.ori p q = 1#1 → p = 1#1 ∨ q = 1#1 := by decide
    rcases hor _ _ h with h | h
    · exact ⟨a, Finset.mem_insert_self a s, h⟩
    · obtain ⟨i, hi, e⟩ := ih h
      exact ⟨i, Finset.mem_insert_of_mem hi, e⟩

theorem all_of_and {ι : Type} (s : Finset ι) (f : ι → BitVec 1) (h : s.fold IntOp.andi 1#1 f = 1#1) : ∀ i ∈ s, f i = 1#1 := by
  classical
  induction s using Finset.induction_on with
  | empty => exact fun i hi => absurd hi (Finset.notMem_empty i)
  | insert a s ha ih =>
    rw [Finset.fold_insert ha] at h
    have hand : ∀ p q : BitVec 1, IntOp.andi p q = 1#1 → p = 1#1 ∧ q = 1#1 := by decide
    obtain ⟨h0, h1⟩ := hand _ _ h
    intro i hi
    rcases Finset.mem_insert.1 hi with rfl | hi
    · exact h0
    · exact ih h1 i hi

section Rows

open Cert.Pre_row_has_candidate Cert.Pre_row_has_candidate.Facts

variable [Cert.Pre_row_has_candidate.Facts]

theorem candidates_reduce : S32x1000000.Reduces [1] S32 := by decide

theorem row_of_drop {i : Fin 32} {y : S32x1000000.Idx} (e : reducesTo_S32x1000000_S32_d1.drop y = ix1 i) : y = ix2 i (y 1) := by
  rw [Shape.ReducesTo.drop_eq_drop reducesTo_S32x1000000_S32_d1 candidates_reduce] at e
  have := candidates_reduce.lift_drop y
  rw [e] at this
  exact this.symm.trans (funext fun c => by fin_cases c <;> rfl)

/-- Every row that the precondition accepts has a logit above minus infinity. -/
theorem has_candidate (L : FVec Ideal S32x1000000 .f32) (h : fn L = fun _ => 1#1) (i : Fin 32) :
    ∃ b : Fin 1000000, ⊥ < (L (ix2 i b) : EReal) := by
  have h0 : Host.reduce IntOp.andi (Host.reduce IntOp.ori
      (cmpf .ogt L (broadcastInDim S32x1000000 ![] bcast_S_S32x1000000 (constant S_ .f32 0xFF800000#32)))
      (constantI S_ 1 0#1) reducesTo_S32x1000000_S32_d1 h_S_) (constantI S_ 1 1#1) reducesTo_S32_S_d0 h_S_ (fun a => a.elim0) = 1#1 :=
    congrFun h _
  have h1 := all_of_and _ _ ((Host.reduce_eq_fold IntOp.andi _ _ _ _ _).symm.trans h0) (ix1 i)
    (Finset.mem_filter.2 ⟨Finset.mem_univ _, funext fun a => a.elim0⟩)
  obtain ⟨y, hy, e⟩ := some_of_or _ _ ((Host.reduce_eq_fold IntOp.ori _ _ _ _ _).symm.trans h1)
  have hr := row_of_drop (Finset.mem_filter.1 hy).2
  refine ⟨y 1, ?_⟩
  refine lt_of_lt_of_eq ?_ (congrArg L hr)
  have e' : Ideal.cmp .ogt (L y) (Scalar.ofBits .f32 0xFF800000#32 : Ideal .f32) = 1#1 := e
  rw [Cert.KernelIdeal.Hand.ideal_bottom] at e'
  by_contra hn
  rw [Ideal.cmp, decide_eq_false hn] at e'
  exact absurd e' (by decide)

end Rows

/-! ## The noise is above minus infinity -/

theorem log_bot : Ideal.log ⊥ = ⊥ := rfl
theorem log_top : Ideal.log ⊤ = ⊤ := rfl
theorem log_coe (r : ℝ) : Ideal.log (r : EReal) = if r ≤ 0 then ⊥ else (Real.log r : EReal) := rfl

theorem log_ne_top {x : EReal} (h : x ≠ ⊤) : Ideal.log x ≠ ⊤ := by
  induction x with
  | bot => rw [log_bot]; exact bot_ne_top
  | top => exact absurd rfl h
  | coe r =>
    rw [log_coe]
    split
    · exact bot_ne_top
    · exact EReal.coe_ne_top _

theorem log_ne_bot {x : EReal} (h : 0 < x) : Ideal.log x ≠ ⊥ := by
  induction x with
  | bot => exact absurd h not_lt_bot
  | top => rw [log_top]; exact top_ne_bot
  | coe r =>
    rw [log_coe, if_neg (not_le.2 (EReal.coe_pos.1 h))]
    exact EReal.coe_ne_bot _

theorem tiny_pos : (0 : EReal) < Ideal.ofBits .f32 0x00800000#32 := by
  show (0 : EReal) < Ideal.ieee 8 23 (0x00800000#32 : BitVec 32)
  have e : Ideal.ieee 8 23 (0x00800000#32 : BitVec 32) = ((1 * (2 ^ 23 + 0 : ℕ) * (2 : ℝ) ^ ((1 : ℤ) - (2 ^ (8 - 1) - 1) - (23 : ℕ)) : ℝ) : EReal) := by
    unfold Ideal.ieee
    simp
  rw [e]
  exact EReal.coe_pos.2 (by positivity)

theorem uniformOf_apply {s : Shape} (w : IVec s 32) (y : s.Idx) :
    ∃ r : EReal, (uniformOf (F := Ideal) w y : EReal) = max (Ideal.ofBits .f32 0x00800000#32) r := ⟨_, rfl⟩

theorem gumbelOf_apply {s : Shape} (u : FVec Ideal s .f32) (y : s.Idx) :
    (gumbelOf u y : EReal) = Ideal.ofBits .f32 0x00000000#32 - Ideal.log (Ideal.ofBits .f32 0x00000000#32 - Ideal.log (u y)) := rfl

theorem noiseAt_ne_bot (w : BitVec 32) : (noiseAt (F := Ideal) w : EReal) ≠ ⊥ := by
  unfold noiseAt noise
  rw [gumbelOf_apply, Ideal.ofBits_zero_f32, zero_sub, zero_sub]
  obtain ⟨r, hr⟩ := uniformOf_apply (bitsOf (fun _ : (⟨0, ![]⟩ : Shape).Idx => w)) (fun a => a.elim0)
  rw [hr]
  have h0 := log_ne_bot (lt_of_lt_of_le tiny_pos (le_max_left (Ideal.ofBits .f32 0x00800000#32) r))
  rw [Ne, EReal.neg_eq_bot_iff]
  refine log_ne_top ?_
  rw [Ne, EReal.neg_eq_top_iff]
  exact h0

end Cert.Proof

end
-- ==== Proof.Agree.lean ====
/- The kernel's words and the reference's are the same wherever every row has a logit above minus infinity: both are
   each row's winner. -/
module

public import proofs.«01_k».proof.Proof.IdealArray
public import proofs.«01_k».proof.Proof.RefWon
public import proofs.«01_k».proof.Proof.Candidate

@[expose] public section

noncomputable section

namespace Cert.Proof

open Idealize.ShloMosaic
open Cert.KernelIdeal.Hand (score logitIx IsBase answer won_apply)

variable {L : FVec Ideal Cert.KernelIdeal.S32x1000000 .f32}

/-- A logit above minus infinity makes a score above it. -/
theorem score_pos {i : Fin 32} {b : Fin 1000000} (h : ⊥ < (L (ix2 i b) : EReal)) : ⊥ < score L i.val b.val := by
  have e : (logitIx i.val b.val : Cert.KernelIdeal.S32x1000000.Idx) = ix2 i b := Cert.ReferenceIdeal.Hand.logitIx_self (ix2 i b)
  unfold score
  rw [e]
  exact bot_lt_iff_ne_bot.2 (EReal.add_ne_bot_iff.2 ⟨noiseAt_ne_bot _, h.ne'⟩)

/-- Every such row has a winner above minus infinity. -/
theorem row_wins {i : Fin 32} (h : ∃ b : Fin 1000000, ⊥ < (L (ix2 i b) : EReal)) :
    ∃ j, Wins 1000000 (score L i.val) j ∧ ⊥ < score L i.val j := by
  obtain ⟨b, hb⟩ := h
  obtain ⟨j, hj⟩ := exists_wins (n := 1000000) (by omega) (score L i.val)
  exact ⟨j, hj, (score_pos hb).trans_le (hj.most b.val b.isLt)⟩

theorem answer_eq_result (hL : ∀ i : Fin 32, ∃ b : Fin 1000000, ⊥ < (L (ix2 i b) : EReal))
    {B : IVec Cert.KernelIdeal.S16x32768 32} (hB : IsBase B) : answer L B = Cert.ReferenceIdeal.Hand.result L := by
  funext y
  have hy : (y 0).val < 32 := (y 0).isLt
  obtain ⟨j, hj, hp⟩ := row_wins (hL (y 0))
  rw [Cert.ReferenceIdeal.Hand.result_apply L y hj hp]
  have e : 16 * ((y 0).val / 16) + (y 0).val % 16 = (y 0).val := by omega
  unfold answer
  refine won_apply hB ((y 0).val / 16) ⟨(y 0).val % 16, Nat.mod_lt _ (by decide)⟩ ?_ ?_ (by omega) _ rfl
  · show Wins 1000000 (score L (16 * ((y 0).val / 16) + (y 0).val % 16)) j
    rw [e]; exact hj
  · show ⊥ < score L (16 * ((y 0).val / 16) + (y 0).val % 16) j
    rw [e]; exact hp

end Cert.Proof

end
-- ==== Proof.lean ====
/- The proof of the claims: each program's frame, that the ideal program is the printed one, and that the kernel's
   result is the reference's over the extended reals. -/
module

public import proofs.«01_k».proof.Defs
public import proofs.«01_k».proof.Proof.KernelFrame
public import proofs.«01_k».proof.Proof.RefResult
public import proofs.«01_k».proof.Proof.Agree
public import proofs.«01_k».proof.Proof.Gen.Pre_row_has_candidate

@[expose] public section

noncomputable section

namespace Cert.Proof

open Idealize.ShloMosaic Idealize.ShloMosaic.TcCoe Idealize.SL.Sem

/-- The printed program's frame at the machine's values. -/
theorem printed_frame : PrintedFrame := printed_eq ▸ Cert.KernelIdeal.Hand.frame_at Bits

/-- The ideal kernel ends with its rows' winners, its argument unchanged. -/
theorem kernel_answers (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v7)
          = Cert.KernelIdeal.Hand.answer (Cert.KernelIdeal.Hand.logits m c) (Cert.KernelIdeal.Hand.baseCtr m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run _ _ _).mono (fun _ h c => ⟨((h.1 c).1 2).trans (Cert.KernelIdeal.Hand.array_eq m c),
    ((h.1 c).1 1).trans (((Cert.KernelIdeal.Hand.dats m 0 c).arrAt_in 1 rfl _).trans (Cert.KernelIdeal.Gen.V_main_arg0 m c))⟩)
    (Cert.KernelIdeal.Hand.run_main m g)

theorem values_agree : algebraic_KernelIdeal_ReferenceIdeal_pre_row_has_candidate
    (hKernelIdeal := Cert.KernelIdeal.Gen.facts) (hReferenceIdeal := Cert.ReferenceIdeal.Gen.facts)
    (hPre_row_has_candidate := Cert.Pre_row_has_candidate.Gen.facts) := fun m g m' g' hpre harg =>
  ⟨fun c => Cert.KernelIdeal.Hand.answer (Cert.KernelIdeal.Hand.logits m c) (Cert.KernelIdeal.Hand.baseCtr m c),
    kernel_answers m g,
    (θ_run _ _ _).mono (fun _ h c => ⟨(h.1 c).1.trans ((congrArg Cert.ReferenceIdeal.Hand.result (harg c)).trans
      (answer_eq_result (has_candidate _ (hpre c)) (Cert.KernelIdeal.Hand.base_isBase m c)).symm), (h.1 c).2⟩)
      (Cert.ReferenceIdeal.Hand.run m' g')⟩

theorem claim : Cert.Claim :=
  ⟨Cert.Kernel.Gen.facts, Cert.KernelIdeal.Gen.facts, Cert.ReferenceIdeal.Gen.facts, Cert.Pre_row_has_candidate.Gen.facts,
    fun m g _ => printed_frame m g,
    fun m g _ => Cert.KernelIdeal.Hand.frame_at Ideal m g,
    fun m g _ => Cert.KernelIdeal.Hand.frame_at Ideal m g,
    fun m g _ => (θ_run _ _ _).mono (fun _ h => ⟨fun c => (h.1 c).2, h.2⟩) (Cert.ReferenceIdeal.Hand.run m g),
    fun m g _ => (θ_run _ _ _).mono (fun _ h => ⟨fun c => (h.1 c).2, h.2⟩) (Cert.ReferenceIdeal.Hand.run m g),
    trivial, values_agree⟩

end Cert.Proof

end
